-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x1024x256 : Shape := ⟨3, ![128, 1024, 256]⟩
abbrev S1024 : Shape := ⟨1, ![1024]⟩
abbrev S1024x64 : Shape := ⟨2, ![1024, 64]⟩
abbrev S2048x1024 : Shape := ⟨2, ![2048, 1024]⟩
abbrev S2048 : Shape := ⟨1, ![2048]⟩
abbrev S_ : Shape := ⟨0, ![]⟩

class Facts : Prop where
  bcast_S_S128x1024x256 : S_.BroadcastsInDim S128x1024x256 (![] : Fin 0 → Fin S128x1024x256.rank)
  bcast_S_S1024 : S_.BroadcastsInDim S1024 (![] : Fin 0 → Fin S1024.rank)
  bcast_S_S1024x64 : S_.BroadcastsInDim S1024x64 (![] : Fin 0 → Fin S1024x64.rank)

variable [Facts]

def fn_part1 {F : FTy → Type} [FloatOps F] (main_arg3 : FVec F S1024x64 .f32) (main_arg4 : FVec F S1024x64 .f32) (main_arg5 : FVec F S1024x64 .f32) (main_v4 : IVec S128x1024x256 1) (main_v9 : IVec S1024 1) (main_v14 : IVec S1024x64 1) (main_v16 : IVec S1024x64 1) : IVec S128x1024x256 1 × IVec S1024 1 × IVec S1024x64 1 × IVec S1024x64 1 × IVec S1024x64 1 × IVec S1024x64 1 :=
  let main_cst_6 : FVec F S_ .f32 := constant S_ .f32 0x7F800000#32
  let main_v17 : FVec F S1024x64 .f32 := broadcastInDim S1024x64 ![] bcast_S_S1024x64 main_cst_6
  let main_v18 : IVec S1024x64 1 := cmpf .olt main_arg3 main_v17
  let main_v19 : IVec S1024x64 1 := andi main_v16 main_v18
  let main_cst_7 : FVec F S_ .f32 := constant S_ .f32 0xFF800000#32
  let main_v20 : FVec F S1024x64 .f32 := broadcastInDim S1024x64 ![] bcast_S_S1024x64 main_cst_7
  let main_v21 : IVec S1024x64 1 := cmpf .ogt main_arg4 main_v20
  let main_cst_8 : FVec F S_ .f32 := constant S_ .f32 0x7F800000#32
  let main_v22 : FVec F S1024x64 .f32 := broadcastInDim S1024x64 ![] bcast_S_S1024x64 main_cst_8
  let main_v23 : IVec S1024x64 1 := cmpf .olt main_arg4 main_v22
  let main_v24 : IVec S1024x64 1 := andi main_v21 main_v23
  let main_cst_9 : FVec F S_ .f32 := constant S_ .f32 0xFF800000#32
  let main_v25 : FVec F S1024x64 .f32 := broadcastInDim S1024x64 ![] bcast_S_S1024x64 main_cst_9
  let main_v26 : IVec S1024x64 1 := cmpf .ogt main_arg5 main_v25
  let main_cst_10 : FVec F S_ .f32 := constant S_ .f32 0x7F800000#32
  let main_v27 : FVec F S1024x64 .f32 := broadcastInDim S1024x64 ![] bcast_S_S1024x64 main_cst_10
  let main_v28 : IVec S1024x64 1 := cmpf .olt main_arg5 main_v27
  let main_v29 : IVec S1024x64 1 := andi main_v26 main_v28
  (main_v4, main_v9, main_v14, main_v19, main_v24, main_v29)

def fn {F : FTy → Type} [FloatOps F] (main_arg0 : FVec F S128x1024x256 .f32) (main_arg1 : FVec F S1024 .f32) (main_arg2 : FVec F S1024x64 .f32) (main_arg3 : FVec F S1024x64 .f32) (main_arg4 : FVec F S1024x64 .f32) (main_arg5 : FVec F S1024x64 .f32) (main_arg6 : FVec F S1024 .f32) (main_arg7 : FVec F S2048x1024 .f32) (main_arg8 : FVec F S2048 .f32) : IVec S128x1024x256 1 × IVec S1024 1 × IVec S1024x64 1 × IVec S1024x64 1 × IVec S1024x64 1 × IVec S1024x64 1 :=
  let main_cst : FVec F S_ .f32 := constant S_ .f32 0xFF800000#32
  let main_v0 : FVec F S128x1024x256 .f32 := broadcastInDim S128x1024x256 ![] bcast_S_S128x1024x256 main_cst
  let main_v1 : IVec S128x1024x256 1 := cmpf .ogt main_arg0 main_v0
  let main_cst_0 : FVec F S_ .f32 := constant S_ .f32 0x7F800000#32
  let main_v2 : FVec F S128x1024x256 .f32 := broadcastInDim S128x1024x256 ![] bcast_S_S128x1024x256 main_cst_0
  let main_v3 : IVec S128x1024x256 1 := cmpf .olt main_arg0 main_v2
  let main_v4 : IVec S128x1024x256 1 := andi main_v1 main_v3
  let main_cst_1 : FVec F S_ .f32 := constant S_ .f32 0xFF800000#32
  let main_v5 : FVec F S1024 .f32 := broadcastInDim S1024 ![] bcast_S_S1024 main_cst_1
  let main_v6 : IVec S1024 1 := cmpf .ogt main_arg1 main_v5
  let main_cst_2 : FVec F S_ .f32 := constant S_ .f32 0x7F800000#32
  let main_v7 : FVec F S1024 .f32 := broadcastInDim S1024 ![] bcast_S_S1024 main_cst_2
  let main_v8 : IVec S1024 1 := cmpf .olt main_arg1 main_v7
  let main_v9 : IVec S1024 1 := andi main_v6 main_v8
  let main_cst_3 : FVec F S_ .f32 := constant S_ .f32 0xFF800000#32
  let main_v10 : FVec F S1024x64 .f32 := broadcastInDim S1024x64 ![] bcast_S_S1024x64 main_cst_3
  let main_v11 : IVec S1024x64 1 := cmpf .ogt main_arg2 main_v10
  let main_cst_4 : FVec F S_ .f32 := constant S_ .f32 0x7F800000#32
  let main_v12 : FVec F S1024x64 .f32 := broadcastInDim S1024x64 ![] bcast_S_S1024x64 main_cst_4
  let main_v13 : IVec S1024x64 1 := cmpf .olt main_arg2 main_v12
  let main_v14 : IVec S1024x64 1 := andi main_v11 main_v13
  let main_cst_5 : FVec F S_ .f32 := constant S_ .f32 0xFF800000#32
  let main_v15 : FVec F S1024x64 .f32 := broadcastInDim S1024x64 ![] bcast_S_S1024x64 main_cst_5
  let main_v16 : IVec S1024x64 1 := cmpf .ogt main_arg3 main_v15
  fn_part1 (F := F) main_arg3 main_arg4 main_arg5 main_v4 main_v9 main_v14 main_v16
-- ==== Kernel.lean ====
abbrev S128x1024x256 : Shape := ⟨3, ![128, 1024, 256]⟩
abbrev S1024 : Shape := ⟨1, ![1024]⟩
abbrev S1024x64 : Shape := ⟨2, ![1024, 64]⟩
abbrev S2048x1024 : Shape := ⟨2, ![2048, 1024]⟩
abbrev S2048 : Shape := ⟨1, ![2048]⟩
abbrev S1024x1 : Shape := ⟨2, ![1024, 1]⟩
abbrev S1024x128x256 : Shape := ⟨3, ![1024, 128, 256]⟩
abbrev S64x1 : Shape := ⟨2, ![64, 1]⟩
abbrev S64x64 : Shape := ⟨2, ![64, 64]⟩
abbrev S128x64x256 : Shape := ⟨3, ![128, 64, 256]⟩
abbrev S64x128x256 : Shape := ⟨3, ![64, 128, 256]⟩
abbrev S256x256 : Shape := ⟨2, ![256, 256]⟩
abbrev S64x1x128 : Shape := ⟨3, ![64, 1, 128]⟩
abbrev S64x8x128 : Shape := ⟨3, ![64, 8, 128]⟩
abbrev S64x128 : Shape := ⟨2, ![64, 128]⟩
abbrev S16x1x128 : Shape := ⟨3, ![16, 1, 128]⟩
abbrev S16x8x128 : Shape := ⟨3, ![16, 8, 128]⟩
abbrev S16x1x64 : Shape := ⟨3, ![16, 1, 64]⟩
abbrev S16x8x64 : Shape := ⟨3, ![16, 8, 64]⟩
abbrev S16x16x128 : Shape := ⟨3, ![16, 16, 128]⟩
abbrev S16x16x64 : Shape := ⟨3, ![16, 16, 64]⟩
abbrev S16x32x128 : Shape := ⟨3, ![16, 32, 128]⟩
abbrev S16x32x64 : Shape := ⟨3, ![16, 32, 64]⟩
abbrev S16x64x128 : Shape := ⟨3, ![16, 64, 128]⟩
abbrev S16x64x64 : Shape := ⟨3, ![16, 64, 64]⟩
abbrev S16x128x128 : Shape := ⟨3, ![16, 128, 128]⟩
abbrev S16x128x64 : Shape := ⟨3, ![16, 128, 64]⟩
abbrev S16x256x128 : Shape := ⟨3, ![16, 256, 128]⟩
abbrev S1x256x128 : Shape := ⟨3, ![1, 256, 128]⟩
abbrev S256x128 : Shape := ⟨2, ![256, 128]⟩
abbrev S1x1 : Shape := ⟨2, ![1, 1]⟩
abbrev S128x1x256 : Shape := ⟨3, ![128, 1, 256]⟩
abbrev S128x256 : Shape := ⟨2, ![128, 256]⟩
abbrev S1x128x256 : Shape := ⟨3, ![1, 128, 256]⟩
abbrev S1024x32768 : Shape := ⟨2, ![1024, 32768]⟩
abbrev S2048x1x1 : Shape := ⟨3, ![2048, 1, 1]⟩
abbrev S2048x4x256 : Shape := ⟨3, ![2048, 4, 256]⟩
abbrev S1024x1024 : Shape := ⟨2, ![1024, 1024]⟩
abbrev S4x1024x256 : Shape := ⟨3, ![4, 1024, 256]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 18
  | .vmem => 22
  | .smem => 0
  | _ => 0

abbrev bufTy : (tb : Table) → Fin (tcTables nBuf tb) → BufTy
  | .hbm, ⟨0, _⟩ => ⟨S128x1024x256, .f32⟩
  | .hbm, ⟨1, _⟩ => ⟨S1024, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024, .f32⟩
  | .hbm, ⟨7, _⟩ => ⟨S2048x1024, .f32⟩
  | .hbm, ⟨8, _⟩ => ⟨S2048, .f32⟩
  | .hbm, ⟨9, _⟩ => ⟨S1024x1, .f32⟩
  | .hbm, ⟨10, _⟩ => ⟨S1024x1, .f32⟩
  | .hbm, ⟨11, _⟩ => ⟨S1024x128x256, .bf16⟩
  | .hbm, ⟨12, _⟩ => ⟨S1024x32768, .bf16⟩
  | .hbm, ⟨13, _⟩ => ⟨S2048x1024, .bf16⟩
  | .hbm, ⟨14, _⟩ => ⟨S2048x1x1, .f32⟩
  | .hbm, ⟨15, _⟩ => ⟨S2048x4x256, .f32⟩
  | .hbm, ⟨16, _⟩ => ⟨S2048x1024, .f32⟩
  | .hbm, ⟨17, _⟩ => ⟨S128x1024x256, .f32⟩
  | .local _ .vmem, ⟨0, _⟩ => ⟨S64x1, .f32⟩
  | .local _ .vmem, ⟨1, _⟩ => ⟨S64x1, .f32⟩
  | .local _ .vmem, ⟨2, _⟩ => ⟨S64x1, .f32⟩
  | .local _ .vmem, ⟨3, _⟩ => ⟨S64x1, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S128x64x256, .f32⟩
  | .local _ .vmem, ⟨13, _⟩ => ⟨S128x64x256, .f32⟩
  | .local _ .vmem, ⟨14, _⟩ => ⟨S64x128x256, .bf16⟩
  | .local _ .vmem, ⟨15, _⟩ => ⟨S64x128x256, .bf16⟩
  | .local _ .vmem, ⟨16, _⟩ => ⟨S2048x1024, .bf16⟩
  | .local _ .vmem, ⟨17, _⟩ => ⟨S2048x1024, .f32⟩
  | .local _ .vmem, ⟨18, _⟩ => ⟨S1024x1024, .bf16⟩
  | .local _ .vmem, ⟨19, _⟩ => ⟨S1024x1024, .bf16⟩
  | .local _ .vmem, ⟨20, _⟩ => ⟨S4x1024x256, .f32⟩
  | .local _ .vmem, ⟨21, _⟩ => ⟨S4x1024x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S128x1024x256 : Shape := ⟨3, ![128, 1024, 256]⟩
abbrev S1024 : Shape := ⟨1, ![1024]⟩
abbrev S1024x64 : Shape := ⟨2, ![1024, 64]⟩
abbrev S2048x1024 : Shape := ⟨2, ![2048, 1024]⟩
abbrev S2048 : Shape := ⟨1, ![2048]⟩
abbrev S1024x1 : Shape := ⟨2, ![1024, 1]⟩
abbrev S_ : Shape := ⟨0, ![]⟩
abbrev S256 : Shape := ⟨1, ![256]⟩
abbrev S1024x64x1 : Shape := ⟨3, ![1024, 64, 1]⟩
abbrev S1x1x256 : Shape := ⟨3, ![1, 1, 256]⟩
abbrev S1024x64x256 : Shape := ⟨3, ![1024, 64, 256]⟩
abbrev S1024x256 : Shape := ⟨2, ![1024, 256]⟩
abbrev S1x256 : Shape := ⟨2, ![1, 256]⟩
abbrev S256x1 : Shape := ⟨2, ![256, 1]⟩
abbrev S256x256 : Shape := ⟨2, ![256, 256]⟩
abbrev S256x256x1 : Shape := ⟨3, ![256, 256, 1]⟩
abbrev S1024x256x256 : Shape := ⟨3, ![1024, 256, 256]⟩
abbrev S1024x256x128 : Shape := ⟨3, ![1024, 256, 128]⟩
abbrev S1x1024x1 : Shape := ⟨3, ![1, 1024, 1]⟩
abbrev S2048x128x256 : Shape := ⟨3, ![2048, 128, 256]⟩
abbrev S128x2048x256 : Shape := ⟨3, ![128, 2048, 256]⟩
abbrev S1x2048x1 : Shape := ⟨3, ![1, 2048, 1]⟩

abbrev nBuf : Space → Nat
  | .hbm => 131
  | .vmem => 0
  | .smem => 0
  | _ => 0

abbrev hbmTy0_0 (i : Nat) : BufTy := match i % 128 with
  | 0 => ⟨S128x1024x256, .f32⟩
  | 1 => ⟨S1024, .f32⟩
  | 2 => ⟨S1024x64, .f32⟩
  | 3 => ⟨S1024x64, .f32⟩
  | 4 => ⟨S1024x64, .f32⟩
  | 5 => ⟨S1024x64, .f32⟩
  | 6 => ⟨S1024, .f32⟩
  | 7 => ⟨S2048x1024, .f32⟩
  | 8 => ⟨S2048, .f32⟩
  | 9 => ⟨S1024, .f32⟩
  | 10 => ⟨S1024x1, .f32⟩
  | 11 => ⟨S1024x64, .f32⟩
  | 12 => ⟨S1024x64, .f32⟩
  | 13 => ⟨S1024x64, .f32⟩
  | 14 => ⟨S1024x64, .f32⟩
  | 15 => ⟨S1024x64, .f32⟩
  | 16 => ⟨S1024x64, .f32⟩
  | 17 => ⟨S1024x64, .f32⟩
  | 18 => ⟨S1024x64, .f32⟩
  | 19 => ⟨S1024x64, .f32⟩
  | 20 => ⟨S_, .f32⟩
  | 21 => ⟨S1024x64, .f32⟩
  | 22 => ⟨S1024x64, .f32⟩
  | 23 => ⟨S1024x64, .f32⟩
  | 24 => ⟨S1024x64, .f32⟩
  | 25 => ⟨S1024x64, .f32⟩
  | 26 => ⟨S1024x64, .f32⟩
  | 27 => ⟨S1024x64, .f32⟩
  | 28 => ⟨S1024x64, .f32⟩
  | 29 => ⟨S1024x64, .f32⟩
  | 30 => ⟨S1024x64, .f32⟩
  | 31 => ⟨S1024x64, .f32⟩
  | 32 => ⟨S1024x64, .f32⟩
  | 33 => ⟨S1024x64, .f32⟩
  | 34 => ⟨S1024x64, .f32⟩
  | 35 => ⟨S1024x64, .f32⟩
  | 36 => ⟨S1024x64, .f32⟩
  | 37 => ⟨S1024x64, .f32⟩
  | 38 => ⟨S1024x64, .f32⟩
  | 39 => ⟨S1024x64, .f32⟩
  | 40 => ⟨S1024x64, .f32⟩
  | 41 => ⟨S1024x64, .f32⟩
  | 42 => ⟨S1024x64, .f32⟩
  | 43 => ⟨S256, .f32⟩
  | 44 => ⟨S1024x64x1, .f32⟩
  | 45 => ⟨S1x1x256, .f32⟩
  | 46 => ⟨S1024x64x256, .f32⟩
  | 47 => ⟨S1024x64x256, .f32⟩
  | 48 => ⟨S1024x64x256, .f32⟩
  | 49 => ⟨S1024x64x256, .f32⟩
  | 50 => ⟨S1024x64x1, .f32⟩
  | 51 => ⟨S1x1x256, .f32⟩
  | 52 => ⟨S1024x64x256, .f32⟩
  | 53 => ⟨S1024x64x256, .f32⟩
  | 54 => ⟨S1024x64x256, .f32⟩
  | 55 => ⟨S1024x64x256, .f32⟩
  | 56 => ⟨S1024x64x256, .f32⟩
  | 57 => ⟨S1024x256, .f32⟩
  | 58 => ⟨S1024x64x256, .f32⟩
  | 59 => ⟨S1024x64x256, .f32⟩
  | 60 => ⟨S1024x256, .f32⟩
  | 61 => ⟨S1024x256, .f32⟩
  | 62 => ⟨S_, .f32⟩
  | 63 => ⟨S1024x256, .f32⟩
  | 64 => ⟨S1024x256, .f32⟩
  | 65 => ⟨S256, .i32⟩
  | 66 => ⟨S1x256, .i32⟩
  | 67 => ⟨S256, .i32⟩
  | 68 => ⟨S256x1, .i32⟩
  | 69 => ⟨S256x256, .i32⟩
  | 70 => ⟨S256x256, .i32⟩
  | 71 => ⟨S256x256, .i32⟩
  | 72 => ⟨S_, .i32⟩
  | 73 => ⟨S256x256, .i32⟩
  | 74 => ⟨S256x256, .i1⟩
  | 75 => ⟨S_, .i32⟩
  | 76 => ⟨S256x256, .i32⟩
  | 77 => ⟨S256x256, .i32⟩
  | 78 => ⟨S_, .i32⟩
  | 79 => ⟨S256x256, .i32⟩
  | 80 => ⟨S256x256, .i1⟩
  | 81 => ⟨S_, .i32⟩
  | 82 => ⟨S256x256, .i32⟩
  | 83 => ⟨S256x256, .i32⟩
  | 84 => ⟨S256x256, .i32⟩
  | 85 => ⟨S256x256x1, .i32⟩
  | 86 => ⟨S1024x256x256, .f32⟩
  | 87 => ⟨S_, .f32⟩
  | 88 => ⟨S_, .f32⟩
  | 89 => ⟨S1024x256x256, .i1⟩
  | 90 => ⟨S1024x256x256, .f32⟩
  | 91 => ⟨S1024x256x256, .f32⟩
  | 92 => ⟨S1024x256x128, .f32⟩
  | 93 => ⟨S128x1024x256, .f32⟩
  | 94 => ⟨S1x1024x1, .f32⟩
  | 95 => ⟨S128x1024x256, .f32⟩
  | 96 => ⟨S128x1024x256, .f32⟩
  | 97 => ⟨S128x1024x256, .f32⟩
  | 98 => ⟨S128x1024x256, .f32⟩
  | 99 => ⟨S128x1024x256, .f32⟩
  | 100 => ⟨S_, .f32⟩
  | 101 => ⟨S128x1024x256, .f32⟩
  | 102 => ⟨S128x1024x256, .f32⟩
  | 103 => ⟨S128x1024x256, .f32⟩
  | 104 => ⟨S_, .f32⟩
  | 105 => ⟨S128x1024x256, .f32⟩
  | 106 => ⟨S128x1024x256, .f32⟩
  | 107 => ⟨S128x1024x256, .f32⟩
  | 108 => ⟨S_, .f32⟩
  | 109 => ⟨S128x1024x256, .f32⟩
  | 110 => ⟨S128x1024x256, .f32⟩
  | 111 => ⟨S_, .f32⟩
  | 112 => ⟨S128x1024x256, .f32⟩
  | 113 => ⟨S128x1024x256, .f32⟩
  | 114 => ⟨S128x1024x256, .f32⟩
  | 115 => ⟨S2048x128x256, .f32⟩
  | 116 => ⟨S128x2048x256, .f32⟩
  | 117 => ⟨S1x2048x1, .f32⟩
  | 118 => ⟨S128x2048x256, .f32⟩
  | 119 => ⟨S128x2048x256, .f32⟩
  | 120 => ⟨S128x1024x256, .f32⟩
  | 121 => ⟨S128x1024x256, .f32⟩
  | 122 => ⟨S128x1024x256, .f32⟩
  | 123 => ⟨S128x1024x256, .f32⟩
  | 124 => ⟨S_, .f32⟩
  | 125 => ⟨S128x1024x256, .f32⟩
  | 126 => ⟨S128x1024x256, .f32⟩
  | 127 => ⟨S_, .f32⟩
  | _ => ⟨S128x1024x256, .f32⟩

abbrev hbmTy0_1 (i : Nat) : BufTy := match i % 128 with
  | 0 => ⟨S128x1024x256, .f32⟩
  | 1 => ⟨S128x1024x256, .f32⟩
  | 2 => ⟨S128x1024x256, .f32⟩
  | _ => ⟨S128x1024x256, .f32⟩

abbrev hbmTy (i : Nat) : BufTy := match i / 128 with
  | 0 => hbmTy0_0 i
  | 1 => hbmTy0_1 i
  | _ => ⟨S128x1024x256, .f32⟩

abbrev bufTy : (tb : Table) → Fin (tcTables nBuf tb) → BufTy
  | .hbm, ⟨i, _⟩ => hbmTy i
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_0 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c : Ref sig .tc := ⟨.hbm, 72, rfl⟩
abbrev main_v61 : Ref sig .tc := ⟨.hbm, 73, rfl⟩
abbrev main_v62 : Ref sig .tc := ⟨.hbm, 74, rfl⟩
abbrev main_c_1 : Ref sig .tc := ⟨.hbm, 75, rfl⟩
abbrev main_v63 : Ref sig .tc := ⟨.hbm, 76, rfl⟩
abbrev main_v64 : Ref sig .tc := ⟨.hbm, 77, rfl⟩
abbrev main_c_2 : Ref sig .tc := ⟨.hbm, 78, rfl⟩
abbrev main_v65 : Ref sig .tc := ⟨.hbm, 79, rfl⟩
abbrev main_v66 : Ref sig .tc := ⟨.hbm, 80, rfl⟩
abbrev main_c_3 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_4 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_5 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_6 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_7 : Ref sig .tc := ⟨.hbm, 108, rfl⟩
abbrev main_v87 : Ref sig .tc := ⟨.hbm, 109, rfl⟩
abbrev main_v88 : Ref sig .tc := ⟨.hbm, 110, rfl⟩
abbrev main_cst_8 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_9 : Ref sig .tc := ⟨.hbm, 124, rfl⟩
abbrev main_v101 : Ref sig .tc := ⟨.hbm, 125, rfl⟩
abbrev main_v102 : Ref sig .tc := ⟨.hbm, 126, rfl⟩
abbrev main_cst_10 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Proof.KernelRun.lean ====
/- The run of the whole program read at its result: the generated launch, with the contents at the last boundary kept for
   the result array beside the arguments. -/
module

public import proofs.«01_k».proof.Proof.Gen.KernelIdeal.Frame

@[expose] public section

set_option maxRecDepth 16384

noncomputable section

namespace Cert.S4D

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends with the result array at what the second call leaves in it, the arguments as launched. -/
theorem kernel_run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.S4D
-- ==== Proof.Tower.lean ====
/- The packed complex arithmetic of the convolution kernel, written once at every length: a row of 128 lanes holds 64
   complex numbers, their real parts in the first 64 lanes and their imaginary parts in the last 64. -/
module

public import proofs.«01_k».proof.Proof.Gen.KernelIdeal.Frame

@[expose] public section

noncomputable section

namespace Cert.S4D

open Idealize.ShloMosaic Cert.KernelIdeal Cert.KernelIdeal.Gen Cert.KernelIdeal.Facts

variable {F : FTy → Type} [FloatOps F]

/-- 16 channels, `T` times, 128 lanes. -/
abbrev Row (T : Nat) : Shape := ⟨3, ![16, T, 128]⟩

/-- 16 channels, `T` times, 64 lanes. -/
abbrev Half (T : Nat) : Shape := ⟨3, ![16, T, 64]⟩

/-- What the exchange of the two lane halves asks of the shapes. -/
structure Swaps (T : Nat) : Prop where
  hi : (Row T).Slices ![0, 0, 64] (Half T)
  lo : (Row T).Slices ![0, 0, 0] (Half T)
  cat : Shape.Concatenates [Half T, Half T] (Row T) 2

/-- What one doubling of the times, from `T` to `T2`, asks of the shapes. -/
structure Level (T T2 : Nat) : Prop extends Swaps T where
  bc : (Row 1).Broadcasts (Row T)
  dbl : Shape.Concatenates [Row T, Row T] (Row T2) 1

/-- The two lane halves exchanged. -/
def swap {T : Nat} (h : Swaps T) (x : FVec F (Row T) .f32) : FVec F (Row T) .f32 :=
  concatenate (Row T) 2 [⟨Half T, extractStridedSlice (Half T) ![0, 0, 64] x h.hi⟩,
    ⟨Half T, extractStridedSlice (Half T) ![0, 0, 0] x h.lo⟩] h.cat

/-- The multiplier's real parts in both halves. -/
def reBoth (h : Swaps 1) (il : IVec (Row 1) 1) (m : FVec F (Row 1) .f32) : FVec F (Row 1) .f32 :=
  select il m (swap h m)

/-- The multiplier's imaginary parts in both halves, negated in the first. -/
def imBoth (h : Swaps 1) (il : IVec (Row 1) 1) (m : FVec F (Row 1) .f32) : FVec F (Row 1) .f32 :=
  select il (subf (broadcast (Row 1) (Scalar.ofBits .f32 0x00000000#32)) (swap h m)) m

/-- The packed square of a multiplier. -/
def sqr (h : Swaps 1) (il : IVec (Row 1) 1) (m : FVec F (Row 1) .f32) : FVec F (Row 1) .f32 :=
  addf (mulf m (reBoth h il m)) (mulf (swap h m) (imBoth h il m))

/-- The packed product of every time's row by one multiplier per channel. -/
def mulBy (h : Swaps 1) {T T2 : Nat} (hT : Level T T2) (il : IVec (Row 1) 1) (x : FVec F (Row T) .f32)
    (m : FVec F (Row 1) .f32) : FVec F (Row T) .f32 :=
  addf (mulf x (broadcastTo (Row T) (reBoth h il m) hT.bc))
    (mulf (swap hT.toSwaps x) (broadcastTo (Row T) (imBoth h il m) hT.bc))

/-- The rows of times `0 ‥ T-1` followed by their packed products with the multiplier. -/
def double (h : Swaps 1) {T T2 : Nat} (hT : Level T T2) (il : IVec (Row 1) 1) (x : FVec F (Row T) .f32)
    (m : FVec F (Row 1) .f32) : FVec F (Row T2) .f32 :=
  concatenate (Row T2) 1 [⟨Row T, x⟩, ⟨Row T, mulBy h hT il x m⟩] hT.dbl

/-- The halves of one row per channel can be exchanged. -/
theorem swaps1 : Swaps 1 :=
  ⟨slices_S16x1x128_o0_0_64_S16x1x64, slices_S16x1x128_o0_0_0_S16x1x64, concatenates_S16x1x64_S16x1x64_S16x1x128_d2⟩

/-- 8 times can be doubled to 16. -/
theorem level8 : Level 8 16 :=
  ⟨⟨slices_S16x8x128_o0_0_64_S16x8x64, slices_S16x8x128_o0_0_0_S16x8x64, concatenates_S16x8x64_S16x8x64_S16x8x128_d2⟩,
    broadcasts_S16x1x128_S16x8x128, concatenates_S16x8x128_S16x8x128_S16x16x128_d1⟩

/-- 16 times can be doubled to 32. -/
theorem level16 : Level 16 32 :=
  ⟨⟨slices_S16x16x128_o0_0_64_S16x16x64, slices_S16x16x128_o0_0_0_S16x16x64,
    concatenates_S16x16x64_S16x16x64_S16x16x128_d2⟩,
    broadcasts_S16x1x128_S16x16x128, concatenates_S16x16x128_S16x16x128_S16x32x128_d1⟩

/-- 32 times can be doubled to 64. -/
theorem level32 : Level 32 64 :=
  ⟨⟨slices_S16x32x128_o0_0_64_S16x32x64, slices_S16x32x128_o0_0_0_S16x32x64,
    concatenates_S16x32x64_S16x32x64_S16x32x128_d2⟩,
    broadcasts_S16x1x128_S16x32x128, concatenates_S16x32x128_S16x32x128_S16x64x128_d1⟩

/-- 64 times can be doubled to 128. -/
theorem level64 : Level 64 128 :=
  ⟨⟨slices_S16x64x128_o0_0_64_S16x64x64, slices_S16x64x128_o0_0_0_S16x64x64,
    concatenates_S16x64x64_S16x64x64_S16x64x128_d2⟩,
    broadcasts_S16x1x128_S16x64x128, concatenates_S16x64x128_S16x64x128_S16x128x128_d1⟩

/-- 128 times can be doubled to 256. -/
theorem level128 : Level 128 256 :=
  ⟨⟨slices_S16x128x128_o0_0_64_S16x128x64, slices_S16x128x128_o0_0_0_S16x128x64,
    concatenates_S16x128x64_S16x128x64_S16x128x128_d2⟩,
    broadcasts_S16x1x128_S16x128x128, concatenates_S16x128x128_S16x128x128_S16x256x128_d1⟩

/-- Five doublings, from 8 times to 256, the multiplier squared between them. -/
def tower (il : IVec (Row 1) 1) (x : FVec F (Row 8) .f32) (m : FVec F (Row 1) .f32) : FVec F (Row 256) .f32 :=
  let sq := sqr swaps1 il
  double swaps1 level128 il (double swaps1 level64 il (double swaps1 level32 il (double swaps1 level16 il
    (double swaps1 level8 il x m) (sq m)) (sq (sq m))) (sq (sq (sq m)))) (sq (sq (sq (sq m))))

/-- The 16 channels of group `o` taken out of the 64 of the block. -/
theorem group_slices1 (o : Fin 4) : S64x1x128.Slices ![16 * o.val, 0, 0] S16x1x128 := by
  revert o; decide

/-- A group's first eight times are a slice of the block's. -/
theorem group_slices8 (o : Fin 4) : S64x8x128.Slices ![16 * o.val, 0, 0] S16x8x128 := by
  revert o; decide

/-- The powers of one group of channels: the table `x8` of the first 8 times extended by the multiplier `m8`. -/
def groupTower (o : Fin 4) (il : IVec S64x1x128 1) (x8 : FVec F S64x8x128 .f32) (m8 : FVec F S64x1x128 .f32) :
    FVec F S16x256x128 .f32 :=
  tower (extractStridedSlice S16x1x128 ![16 * o.val, 0, 0] il (group_slices1 o))
    (extractStridedSlice S16x8x128 ![16 * o.val, 0, 0] x8 (group_slices8 o))
    (extractStridedSlice S16x1x128 ![16 * o.val, 0, 0] m8 (group_slices1 o))

end Cert.S4D
-- ==== Proof.Channel.lean ====
/- What the convolution kernel stores for one channel, written once, and the block it leaves as the list of the 64
   channels' stores. -/
module

public import proofs.«01_k».proof.Proof.Tower

@[expose] public section

set_option maxRecDepth 16384

noncomputable section

namespace Cert.S4D

open Idealize.ShloMosaic Cert.KernelIdeal Cert.KernelIdeal.Gen Cert.KernelIdeal.Facts

variable {F : FTy → Type} [FloatOps F]

/-- One channel is a slice of its group's table. -/
theorem chan_slices (c : Fin 16) : S16x256x128.Slices ![c.val, 0, 0] S1x256x128 := by
  revert c; decide

/-- The table of one channel. -/
def row (t : FVec F S16x256x128 .f32) (c : Fin 16) : FVec F S256x128 .f32 :=
  shapeCast S256x128 (extractStridedSlice S1x256x128 ![c.val, 0, 0] t (chan_slices c)) shapeCasts_S1x256x128_S256x128

/-- The products of all rows of `g` with all rows of `p`. -/
def raw (g p : FVec F S16x256x128 .f32) (c : Fin 16) : FVec F S256x256 .f32 :=
  matmul dot_S256x128_S256x128_S256x256_1_1_0_0_n_n none (row g c) (row p c) (constant S256x256 .f32 0x00000000#32)

/-- Row numbers of the 256 × 256 matrix. -/
def rows : IVec S256x256 32 := iota .tc S256x256 32 [0] iota_S256x256_d0_w32
/-- Column numbers of the 256 × 256 matrix. -/
def cols : IVec S256x256 32 := iota .tc S256x256 32 [1] iota_S256x256_d1_w32

/-- The upper triangle of `raw`, with the channel's skip weight `d` added on the diagonal. -/
def tri (g p : FVec F S16x256x128 .f32) (c : Fin 16) (d : Vec F S1x1 .f32) : FVec F S256x256 .f32 :=
  select (cmpi .sge cols rows)
    (select (cmpi .eq cols rows)
      (addf (raw g p c) (broadcast S256x256 (extractAt ![0, 0] d inpos_S1x1_p0_0))) (raw g p c))
    (broadcast S256x256 (Scalar.ofBits .f32 0x00000000#32))

/-- The convolution of the channel's 128 sequences. -/
def conv (g p : FVec F S16x256x128 .f32) (c : Fin 16) (d : Vec F S1x1 .f32) (x : Vec F S128x1x256 .f32) :
    FVec F S128x256 .f32 :=
  matmul dot_S128x256_S256x256_S128x256_1_0_0_1_n_n none (shapeCast S128x256 x shapeCasts_S128x1x256_S128x256)
    (tri g p c d) (constant S128x256 .f32 0x00000000#32)

/-- The tanh form of the GELU. -/
def gelu (y : FVec F S128x256 .f32) : FVec F S128x256 .f32 :=
  mulf y (mulf (broadcast S128x256 (Scalar.ofBits .f32 0x3F000000#32))
    (addf (broadcast S128x256 (Scalar.ofBits .f32 0x3F800000#32))
      (tanh (mulf (broadcast S128x256 (Scalar.ofBits .f32 0x3F4C422A#32))
        (addf y (mulf (broadcast S128x256 (Scalar.ofBits .f32 0x3D372713#32)) (mulf y (mulf y y))))))))

/-- What the kernel stores for the channel. -/
def chan (g p : FVec F S16x256x128 .f32) (c : Fin 16) (d : Vec F S1x1 .f32) (x : Vec F S128x1x256 .f32) :
    FVec F S1x128x256 .bf16 :=
  shapeCast S1x128x256 (truncf .bf16 (gelu (conv g p c d x)) bitsLt_bf16_f32) shapeCasts_S128x256_S1x128x256

/-- A channel's skip weight lies in the block. -/
theorem inb_d (h : Fin 64) : ∀ a, (![h.val, 0] : Fin 2 → Nat) a + S1x1.size a ≤ S64x1.size a := by
  revert h; decide

/-- A channel's sequences lie in the block. -/
theorem inb_x (h : Fin 64) : ∀ a, (![0, h.val, 0] : Fin 3 → Nat) a + S128x1x256.size a ≤ S128x64x256.size a := by
  revert h; decide

/-- A channel's store lies in the block. -/
theorem inb_o (h : Fin 64) : ∀ a, (![h.val, 0, 0] : Fin 3 → Nat) a + S1x128x256.size a ≤ S64x128x256.size a := by
  revert h; decide

/-- The store of channel `16 * o + c` of the block. -/
def piece (g p : FVec F S16x256x128 .f32) (h : Fin 64) (c : Fin 16) (x1 : Vec F S64x1 .f32) (x6 : Vec F S128x64x256 .f32) :
    View.Piece (Elt F) S64x128x256 .bf16 :=
  ⟨Rect.unit (s := S64x128x256) ![h.val, 0, 0] S1x128x256.size (inb_o h),
    chan g p c (View.ld x1 (Rect.unit (s := S64x1) ![h.val, 0] S1x1.size (inb_d h)))
      (View.ld x6 (Rect.unit (s := S128x64x256) ![0, h.val, 0] S128x1x256.size (inb_x h)))⟩

variable (x0 : Vec F S64x1 .f32) (x1 : Vec F S64x1 .f32) (x2 : Vec F S64x64 .f32) (x3 : Vec F S64x64 .f32)
  (x4 : Vec F S64x64 .f32) (x5 : Vec F S64x64 .f32) (x6 : Vec F S128x64x256 .f32)

/-- The powers of group `o`, times the output weights: `C z ^ t`, packed. -/
def pows (o : Fin 4) : FVec F S16x256x128 .f32 :=
  groupTower o (k0_pay301 x0 x1 x2 x3 x4 x5 x6) (k0_pay306 x0 x1 x2 x3 x4 x5 x6) (k0_pay311 x0 x1 x2 x3 x4 x5 x6)

/-- The conjugated inverse powers of group `o`, packed. -/
def invs (o : Fin 4) : FVec F S16x256x128 .f32 :=
  groupTower o (k0_pay301 x0 x1 x2 x3 x4 x5 x6) (k0_pay307 x0 x1 x2 x3 x4 x5 x6) (k0_pay312 x0 x1 x2 x3 x4 x5 x6)

/-- The channels from the last to the first, each as group and place in the group. -/
def order : List (Fin 4 × Fin 16) := [3, 2, 1, 0].flatMap fun o =>
  [15, 14, 13, 12, 11, 10, 9, 8, 7, 6, 5, 4, 3, 2, 1, 0].map fun c => (o, c)

/-- The channel's number in the block. -/
abbrev num (o : Fin 4) (c : Fin 16) : Fin 64 := ⟨16 * o.val + c.val, by omega⟩

/-- The block after the kernel's body is the 64 channels' stores. -/
theorem out_eq : out0_7 x0 x1 x2 x3 x4 x5 x6 = View.canon (order.map fun q =>
    piece (invs x0 x1 x2 x3 x4 x5 x6 q.1) (pows x0 x1 x2 x3 x4 x5 x6 q.1) (num q.1 q.2) q.2 x1 x6) := rfl

end Cert.S4D
-- ==== Proof.Packed.lean ====
/- The packed arithmetic over the extended reals is complex arithmetic: a table that packs `a z ^ t` for `t < T`, doubled by
   a multiplier that packs `z ^ T`, packs `a z ^ t` for `t < 2 T`. -/
module

public import proofs.«01_k».proof.Proof.Tower
public import Idealize.ShloMosaic.Lib.ValueIdx
public import Idealize.ShloMosaic.Lib.MatmulPlain
public import Idealize.ShloMosaic.Lib.IdealHost
public import Idealize.ShloMosaic.Lib.Pipeline.Value
public import Mathlib.Analysis.Complex.Exponential

@[expose] public section

noncomputable section

namespace Cert.S4D

open Idealize.ShloMosaic Idealize.ShloMosaic.ValueIdx Cert.KernelIdeal Cert.KernelIdeal.Facts

/-- The lane of the real part of state `n`. -/
abbrev lo (n : Fin 64) : Fin 128 := ⟨n.val, by omega⟩

/-- The lane of the imaginary part of state `n`. -/
abbrev hi (n : Fin 64) : Fin 128 := ⟨n.val + 64, by omega⟩

/-- A lane is the real or the imaginary lane of a state. -/
theorem lane_cases (l : Fin 128) : (∃ n, l = lo n) ∨ ∃ n, l = hi n := by
  by_cases h : l.val < 64
  · exact .inl ⟨⟨l.val, h⟩, rfl⟩
  · exact .inr ⟨⟨l.val - 64, by omega⟩, Fin.ext (by simp; omega)⟩

/-- The table holds the complex numbers `f`: channel, time, state. -/
def Packs {C T : Nat} (x : FVec Ideal ⟨3, ![C, T, 128]⟩ .f32) (f : Fin C → Fin T → Fin 64 → ℂ) : Prop :=
  ∀ c t n, x (ix3 c t (lo n)) = (((f c t n).re : ℝ) : EReal) ∧ x (ix3 c t (hi n)) = (((f c t n).im : ℝ) : EReal)

/-- The mask is set on the first 64 lanes only. -/
def IsLo {C T : Nat} (il : IVec ⟨3, ![C, T, 128]⟩ 1) : Prop :=
  ∀ c t n, il (ix3 c t (lo n)) = 1#1 ∧ il (ix3 c t (hi n)) = 0#1

/-- A row exchanged holds, on the first lanes, the imaginary parts. -/
theorem swap_lo {T : Nat} (h : Swaps T) (x : FVec Ideal (Row T) .f32) (c : Fin 16) (t : Fin T) (n : Fin 64) :
    swap h x (ix3 c t (lo n)) = x (ix3 c t (hi n)) := by
  unfold swap
  rw [concatenate_pair_apply_left 2 _ _ h.cat (ix3 c t (lo n)) rfl (ix3 (n0 := 16) (n1 := T) (n2 := 64) c t n)
    (fun b => by match b with | ⟨0, _⟩ => rfl | ⟨1, _⟩ => rfl | ⟨2, _⟩ => rfl)]
  exact extractStridedSlice_apply _ _ h.hi _ _ (fun a => by
    match a with
    | ⟨0, _⟩ => exact (Nat.zero_add _).symm
    | ⟨1, _⟩ => exact (Nat.zero_add _).symm
    | ⟨2, _⟩ => exact Nat.add_comm _ _)

/-- A row exchanged holds, on the last lanes, the real parts. -/
theorem swap_hi {T : Nat} (h : Swaps T) (x : FVec Ideal (Row T) .f32) (c : Fin 16) (t : Fin T) (n : Fin 64) :
    swap h x (ix3 c t (hi n)) = x (ix3 c t (lo n)) := by
  unfold swap
  rw [concatenate_pair_apply_right 2 _ _ h.cat (ix3 c t (hi n)) rfl rfl (ix3 (n0 := 16) (n1 := T) (n2 := 64) c t n)
    (fun b hb => by match b with | ⟨0, _⟩ => rfl | ⟨1, _⟩ => rfl | ⟨2, _⟩ => exact absurd rfl hb) rfl]
  exact extractStridedSlice_apply _ _ h.lo _ _ (fun a => by
    match a with
    | ⟨0, _⟩ => exact (Nat.zero_add _).symm
    | ⟨1, _⟩ => exact (Nat.zero_add _).symm
    | ⟨2, _⟩ => exact (Nat.zero_add _).symm)

/-- The elementwise combination of one packed number with another is their product. -/
theorem mul_parts (z w : ℂ) :
    ((z.re : ℝ) : EReal) * ((w.re : ℝ) : EReal) + ((z.im : ℝ) : EReal) * (0 - ((w.im : ℝ) : EReal)) = (((z * w).re : ℝ) : EReal)
      ∧ ((z.im : ℝ) : EReal) * ((w.re : ℝ) : EReal) + ((z.re : ℝ) : EReal) * ((w.im : ℝ) : EReal) = (((z * w).im : ℝ) : EReal) := by
  constructor
  · rw [zero_sub, ← EReal.coe_neg, ← EReal.coe_mul, ← EReal.coe_mul, ← EReal.coe_add, Complex.mul_re]
    congr 1; ring
  · rw [← EReal.coe_mul, ← EReal.coe_mul, ← EReal.coe_add, Complex.mul_im]
    congr 1; ring

section
variable {il : IVec (Row 1) 1} (hil : IsLo il) {m : FVec Ideal (Row 1) .f32} {g : Fin 16 → Fin 1 → Fin 64 → ℂ} (hm : Packs m g)
include hil hm

/-- The multiplier's real parts stand on both halves. -/
theorem reBoth_parts (h : Swaps 1) (c : Fin 16) (t : Fin 1) (n : Fin 64) :
    reBoth h il m (ix3 c t (lo n)) = (((g c t n).re : ℝ) : EReal) ∧ reBoth h il m (ix3 c t (hi n)) = (((g c t n).re : ℝ) : EReal) := by
  unfold reBoth
  rw [select_apply, select_apply, (hil c t n).1, (hil c t n).2, select_one, select_zero, swap_hi, (hm c t n).1]
  exact ⟨rfl, rfl⟩

/-- The multiplier's imaginary parts stand on both halves, negated on the first. -/
theorem imBoth_parts (h : Swaps 1) (c : Fin 16) (t : Fin 1) (n : Fin 64) :
    imBoth h il m (ix3 c t (lo n)) = 0 - (((g c t n).im : ℝ) : EReal)
      ∧ imBoth h il m (ix3 c t (hi n)) = (((g c t n).im : ℝ) : EReal) := by
  unfold imBoth
  rw [select_apply, select_apply, (hil c t n).1, (hil c t n).2, select_one, select_zero, subf_apply, swap_lo, (hm c t n).2]
  refine ⟨?_, rfl⟩
  show Ideal.ofBits .f32 0x00000000#32 - _ = _
  rw [Ideal.ofBits_zero_f32]

/-- The packed square packs the squares. -/
theorem sqr_packs (h : Swaps 1) : Packs (sqr h il m) fun c t n => g c t n * g c t n := by
  intro c t n
  unfold sqr
  constructor
  · rw [addf_apply, mulf_apply, mulf_apply, swap_lo, (reBoth_parts hil hm h c t n).1, (imBoth_parts hil hm h c t n).1,
      (hm c t n).1, (hm c t n).2]
    exact (mul_parts _ _).1
  · rw [addf_apply, mulf_apply, mulf_apply, swap_hi, (reBoth_parts hil hm h c t n).2, (imBoth_parts hil hm h c t n).2,
      (hm c t n).1, (hm c t n).2]
    exact (mul_parts _ _).2

omit hil hm in
/-- One row broadcast to every time reads that row. -/
theorem row_bc {T : Nat} (y : FVec Ideal (Row 1) .f32) (hb : (Row 1).Broadcasts (Row T)) (c : Fin 16) (t : Fin T) (l : Fin 128) :
    broadcastTo (Row T) y hb (ix3 c t l) = y (ix3 c 0 l) :=
  broadcastTo_apply y hb _ _ fun a => by match a with | ⟨0, _⟩ => rfl | ⟨1, _⟩ => rfl | ⟨2, _⟩ => rfl

/-- The packed product packs the products. -/
theorem mulBy_packs (h : Swaps 1) {T T2 : Nat} (hT : Level T T2) {x : FVec Ideal (Row T) .f32} {f : Fin 16 → Fin T → Fin 64 → ℂ}
    (hx : Packs x f) : Packs (mulBy h hT il x m) fun c t n => f c t n * g c 0 n := by
  intro c t n
  unfold mulBy
  constructor
  · rw [addf_apply, mulf_apply, mulf_apply, swap_lo, row_bc, row_bc, (reBoth_parts hil hm h c 0 n).1,
      (imBoth_parts hil hm h c 0 n).1, (hx c t n).1, (hx c t n).2]
    exact (mul_parts _ _).1
  · rw [addf_apply, mulf_apply, mulf_apply, swap_hi, row_bc, row_bc, (reBoth_parts hil hm h c 0 n).2,
      (imBoth_parts hil hm h c 0 n).2, (hx c t n).1, (hx c t n).2]
    exact (mul_parts _ _).2

end

/-- The times of a table packing powers. -/
abbrev powers {C T : Nat} (a z : Fin C → Fin 64 → ℂ) : Fin C → Fin T → Fin 64 → ℂ := fun c t n => a c n * z c n ^ t.val

/-- Doubling a table of the powers below `T` by a multiplier that packs the power `T` gives the powers below `2 T`. -/
theorem double_packs {il : IVec (Row 1) 1} (hil : IsLo il) (h : Swaps 1) {T T2 : Nat} (hT : Level T T2) (h2 : T2 = T + T)
    {x : FVec Ideal (Row T) .f32} {m : FVec Ideal (Row 1) .f32} {a z : Fin 16 → Fin 64 → ℂ}
    (hx : Packs x (powers a z)) (hm : Packs m fun c _ n => z c n ^ T) : Packs (double h hT il x m) (powers a z) := by
  subst h2
  have hall : ∀ (c : Fin 16) (t : Fin (T + T)) (l : Fin 128), double h hT il x m (ix3 c t l)
      = if ht : t.val < T then x (ix3 c ⟨t.val, ht⟩ l) else mulBy h hT il x m (ix3 c ⟨t.val - T, by omega⟩ l) := by
    intro c t l
    unfold double
    split
    · next ht =>
      exact concatenate_pair_apply_left 1 _ _ hT.dbl _ rfl _
        (fun b => by match b with | ⟨0, _⟩ => rfl | ⟨1, _⟩ => rfl | ⟨2, _⟩ => rfl)
    · next ht =>
      refine concatenate_pair_apply_right 1 _ _ hT.dbl _ rfl rfl _
        (fun b hb => by match b with | ⟨0, _⟩ => rfl | ⟨1, _⟩ => exact absurd rfl hb | ⟨2, _⟩ => rfl) ?_
      show t.val - T + T = t.val
      omega
  intro c t n
  have hp := mulBy_packs hil hm h hT hx c
  rw [hall, hall]
  by_cases ht : t.val < T
  · rw [dif_pos ht, dif_pos ht]
    exact hx c ⟨t.val, ht⟩ n
  · rw [dif_neg ht, dif_neg ht]
    have e : a c n * z c n ^ (t.val - T) * z c n ^ T = a c n * z c n ^ t.val := by
      rw [mul_assoc, ← pow_add]; congr 2; omega
    rw [show powers a z c t n = _ from e.symm]
    exact hp ⟨t.val - T, by omega⟩ n

/-- The five doublings extend the first 8 powers to 256. -/
theorem tower_packs {il : IVec (Row 1) 1} (hil : IsLo il) {x : FVec Ideal (Row 8) .f32} {m : FVec Ideal (Row 1) .f32}
    {a z : Fin 16 → Fin 64 → ℂ} (hx : Packs x (powers a z)) (hm : Packs m fun c _ n => z c n ^ 8) :
    Packs (tower il x m) (powers a z) := by
  have sq : ∀ (k k2 : Nat) (_ : k2 = k + k) (y : FVec Ideal (Row 1) .f32), Packs y (fun c _ n => z c n ^ k) →
      Packs (sqr swaps1 il y) fun c _ n => z c n ^ k2 := by
    intro k k2 e y hy
    subst e
    simpa only [← pow_add] using sqr_packs hil hy swaps1
  have h16 := sq 8 16 rfl _ hm
  have h32 := sq 16 32 rfl _ h16
  have h64 := sq 32 64 rfl _ h32
  have h128 := sq 64 128 rfl _ h64
  unfold tower
  exact double_packs hil _ level128 rfl (double_packs hil _ level64 rfl (double_packs hil _ level32 rfl
    (double_packs hil _ level16 rfl (double_packs hil _ level8 rfl hx hm) h16) h32) h64) h128

/-- The channels of group `o` as channels of the block. -/
abbrev inGroup (o : Fin 4) (c : Fin 16) : Fin 64 := ⟨16 * o.val + c.val, by omega⟩

/-- Taking a group's channels out of a packed table of the block. -/
theorem group_packs8 {x : FVec Ideal S64x8x128 .f32} {f : Fin 64 → Fin 8 → Fin 64 → ℂ} (hx : Packs x f) (o : Fin 4) :
    Packs (T := 8) (extractStridedSlice S16x8x128 ![16 * o.val, 0, 0] x (group_slices8 o)) fun c => f (inGroup o c) := by
  intro c t n
  rw [extractStridedSlice_apply _ _ _ _ (ix3 (inGroup o c) t (lo n))
      (fun a => by match a with | ⟨0, _⟩ => simp | ⟨1, _⟩ => simp | ⟨2, _⟩ => simp),
    extractStridedSlice_apply _ _ _ _ (ix3 (inGroup o c) t (hi n))
      (fun a => by match a with | ⟨0, _⟩ => simp | ⟨1, _⟩ => simp | ⟨2, _⟩ => simp)]
  exact hx _ t n

/-- Taking a group's channels out of one packed row per channel. -/
theorem group_packs1 {x : FVec Ideal S64x1x128 .f32} {f : Fin 64 → Fin 1 → Fin 64 → ℂ} (hx : Packs x f) (o : Fin 4) :
    Packs (T := 1) (extractStridedSlice S16x1x128 ![16 * o.val, 0, 0] x (group_slices1 o)) fun c => f (inGroup o c) := by
  intro c t n
  rw [extractStridedSlice_apply _ _ _ _ (ix3 (inGroup o c) t (lo n))
      (fun a => by match a with | ⟨0, _⟩ => simp | ⟨1, _⟩ => simp | ⟨2, _⟩ => simp),
    extractStridedSlice_apply _ _ _ _ (ix3 (inGroup o c) t (hi n))
      (fun a => by match a with | ⟨0, _⟩ => simp | ⟨1, _⟩ => simp | ⟨2, _⟩ => simp)]
  exact hx _ t n

/-- Taking a group's channels out of the mask. -/
theorem group_isLo {il : IVec S64x1x128 1} (hil : IsLo il) (o : Fin 4) :
    IsLo (T := 1) (extractStridedSlice S16x1x128 ![16 * o.val, 0, 0] il (group_slices1 o)) := by
  intro c t n
  rw [extractStridedSlice_apply _ _ _ _ (ix3 (inGroup o c) t (lo n))
      (fun a => by match a with | ⟨0, _⟩ => simp | ⟨1, _⟩ => simp | ⟨2, _⟩ => simp),
    extractStridedSlice_apply _ _ _ _ (ix3 (inGroup o c) t (hi n))
      (fun a => by match a with | ⟨0, _⟩ => simp | ⟨1, _⟩ => simp | ⟨2, _⟩ => simp)]
  exact hil _ t n

/-- A group's table of powers packs them, its first 8 and its multiplier packing theirs. -/
theorem groupTower_packs {il : IVec S64x1x128 1} (hil : IsLo il) {x8 : FVec Ideal S64x8x128 .f32}
    {m8 : FVec Ideal S64x1x128 .f32} {a z : Fin 64 → Fin 64 → ℂ} (hx : Packs x8 (powers a z))
    (hm : Packs m8 fun c _ n => z c n ^ 8) (o : Fin 4) :
    Packs (C := 16) (T := 256) (groupTower o il x8 m8) (powers (fun c => a (inGroup o c)) fun c => z (inGroup o c)) := by
  unfold groupTower
  exact tower_packs (group_isLo hil o) (group_packs8 hx o) (group_packs1 hm o)

end Cert.S4D
-- ==== Proof.Poles.lean ====
/- One state of one channel over the reals: its discretised pole `z`, its output weight `cd`, the inverse conjugate `w` of
   the pole, and the equation the kernel's factorisation rests on: the packed product of `cd z ^ j` and `w ^ i` is the real
   part of `cd z ^ (j - i)`. -/
module

public import Mathlib.Analysis.Complex.Trigonometric
public import Idealize.ShloMosaic.Lib.IdealHost

@[expose] public section

noncomputable section

namespace Cert.S4D

open Idealize.ShloMosaic

/-- The numbers that one state of one channel is given by: logarithm of the step, logarithm of the pole's negated real
    part, the pole's imaginary part, real and imaginary part of the output weight. -/
structure Pole where
  ld : ℝ
  lr : ℝ
  li : ℝ
  cr : ℝ
  ci : ℝ

namespace Pole

variable (p : Pole)

/-- Real part of the pole times the step. -/
def dre : ℝ := -Real.exp p.lr * Real.exp p.ld

/-- Imaginary part of the pole times the step. -/
def dim : ℝ := p.li * Real.exp p.ld

/-- Real part of `z - 1`. -/
def nre : ℝ := Real.exp p.dre * Real.cos p.dim - 1

/-- Imaginary part of `z - 1`. -/
def nim : ℝ := Real.exp p.dre * Real.sin p.dim

/-- Squared length of the pole. -/
def den : ℝ := -Real.exp p.lr * -Real.exp p.lr + p.li * p.li

/-- The pole is not zero. -/
theorem den_ne : p.den ≠ 0 := by
  have h := Real.exp_pos p.lr
  have : 0 < p.den := by unfold den; nlinarith [mul_self_nonneg p.li, mul_pos h h]
  exact this.ne'

/-- Real part of `C (z - 1) / A`. -/
def gre : ℝ := ((p.cr * p.nre - p.ci * p.nim) * -Real.exp p.lr + (p.cr * p.nim + p.ci * p.nre) * p.li) / p.den

/-- Imaginary part of `C (z - 1) / A`. -/
def gim : ℝ := ((p.cr * p.nim + p.ci * p.nre) * -Real.exp p.lr - (p.cr * p.nre - p.ci * p.nim) * p.li) / p.den

/-- Twice the discretised output weight. -/
def cd : ℂ := ⟨2 * p.gre, 2 * p.gim⟩

/-- The discretised pole. -/
def z : ℂ := Complex.exp ⟨p.dre, p.dim⟩

/-- The inverse of its conjugate. -/
def w : ℂ := Complex.exp ⟨-p.dre, p.dim⟩

/-- A power of an exponential in real and imaginary part. -/
theorem exp_pow (a b : ℝ) (t : Nat) : Complex.exp ⟨a, b⟩ ^ t
    = ⟨Real.exp (t * a) * Real.cos (t * b), Real.exp (t * a) * Real.sin (t * b)⟩ := by
  rw [← Complex.exp_nat_mul]
  apply Complex.ext <;> simp [Complex.exp_re, Complex.exp_im]

/-- The powers of the pole. -/
theorem z_pow (t : Nat) : p.z ^ t
    = ⟨Real.exp (t * p.dre) * Real.cos (t * p.dim), Real.exp (t * p.dre) * Real.sin (t * p.dim)⟩ := exp_pow _ _ t

/-- The powers of the inverse conjugate. -/
theorem w_pow (t : Nat) : p.w ^ t
    = ⟨Real.cos (t * p.dim) / Real.exp (t * p.dre), Real.sin (t * p.dim) / Real.exp (t * p.dre)⟩ := by
  rw [w, exp_pow, mul_neg, Real.exp_neg]
  congr 1 <;> rw [div_eq_mul_inv, mul_comm]

/-- The conjugate of `w` is the inverse of `z`. -/
theorem z_mul_conj : p.z * (starRingEnd ℂ) p.w = 1 := by
  rw [z, w, ← Complex.exp_conj, ← Complex.exp_add]
  have : (⟨p.dre, p.dim⟩ + (starRingEnd ℂ) ⟨-p.dre, p.dim⟩ : ℂ) = 0 := by
    apply Complex.ext <;> simp
  rw [this, Complex.exp_zero]

/-- The packed product of a power of the pole and a power of the inverse conjugate is the real part of the power by the
    difference. -/
theorem parts_mul (c : ℂ) {i j : Nat} (h : i ≤ j) :
    (p.w ^ i).re * (c * p.z ^ j).re + (p.w ^ i).im * (c * p.z ^ j).im = (c * p.z ^ (j - i)).re := by
  have e : c * p.z ^ j * (starRingEnd ℂ) (p.w ^ i) = c * p.z ^ (j - i) := by
    obtain ⟨d, rfl⟩ := Nat.exists_eq_add_of_le h
    rw [Nat.add_sub_cancel_left, pow_add, map_pow]
    calc c * (p.z ^ i * p.z ^ d) * (starRingEnd ℂ) p.w ^ i = c * p.z ^ d * (p.z * (starRingEnd ℂ) p.w) ^ i := by
          rw [mul_pow]; ring
      _ = c * p.z ^ d := by rw [z_mul_conj, one_pow, mul_one]
  rw [← e, Complex.mul_re (c * p.z ^ j) ((starRingEnd ℂ) (p.w ^ i)), Complex.conj_re, Complex.conj_im]
  ring

/-- The real part of `cd z ^ t` in the reference's arrangement. -/
theorem tap_eq (t : Nat) : (p.cd * p.z ^ t).re
    = 2 * (p.gre * (Real.exp (p.dre * t) * Real.cos (p.dim * t)) - p.gim * (Real.exp (p.dre * t) * Real.sin (p.dim * t))) := by
  rw [z_pow, Complex.mul_re, mul_comm p.dre, mul_comm p.dim, cd]
  ring

end Pole

/-! ### Real numbers among the extended reals -/

/-- Division of real numbers. -/
theorem div_real {x y : ℝ} (h : y ≠ 0) : Ideal.div (x : EReal) (y : EReal) = ((x / y : ℝ) : EReal) := by
  unfold Ideal.div
  rw [if_neg (by simpa using h), ← EReal.coe_inv, ← EReal.coe_mul, div_eq_mul_inv]

/-- The f32 pattern of two. -/
theorem two_f32 : Ideal.ofBits .f32 0x40000000#32 = ((2 : ℝ) : EReal) := by
  simp [Ideal.ofBits, Ideal.ieee, -EReal.coe_mul]; norm_num

/-- The f32 pattern of eight. -/
theorem eight_f32 : Ideal.ofBits .f32 0x41000000#32 = ((8 : ℝ) : EReal) := by
  simp [Ideal.ofBits, Ideal.ieee, -EReal.coe_mul]; norm_num

/-- A finite sum of real numbers. -/
theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A small number as a 32-bit word, read signed. -/
theorem toInt_small {t : Nat} (h : t < 2 ^ 31) : (BitVec.ofNat 32 t).toInt = (t : Int) := by
  have e : (BitVec.ofNat 32 t).toNat = t := by rw [BitVec.toNat_ofNat]; omega
  rw [BitVec.toInt_eq_toNat_of_lt (by rw [e]; omega), e]

end Cert.S4D
-- ==== Proof.First8.lean ====
/- The tables the powers are built from: over finite inputs the table of the first 8 times packs `cd z ^ t`, the other
   `w ^ t`, and their multipliers `z ^ 8` and `w ^ 8`. -/
module

public import proofs.«01_k».proof.Proof.Channel
public import proofs.«01_k».proof.Proof.Packed
public import proofs.«01_k».proof.Proof.Poles

@[expose] public section

set_option maxRecDepth 16384

noncomputable section

namespace Cert.S4D

open Idealize.ShloMosaic Idealize.ShloMosaic.ValueIdx Cert.KernelIdeal Cert.KernelIdeal.Gen Cert.KernelIdeal.Facts

/-- The mask of the real lanes, one row per channel. -/
theorem isLo1 : IsLo k0_pay2 := by
  intro c t n
  unfold k0_pay2
  constructor
  · show Scalar.cmpi .slt (iota .tc S64x1x128 32 [2] iota_S64x1x128_d2_w32 (ix3 c t (lo n))) 64#32 = 1#1
    rw [iota_single_apply]
    change Scalar.cmpi .slt (BitVec.ofNat 32 n.val) 64#32 = _
    clear c t; revert n; decide
  · show Scalar.cmpi .slt (iota .tc S64x1x128 32 [2] iota_S64x1x128_d2_w32 (ix3 c t (hi n))) 64#32 = 0#1
    rw [iota_single_apply]
    change Scalar.cmpi .slt (BitVec.ofNat 32 (n.val + 64)) 64#32 = _
    clear c t; revert n; decide

/-- The mask of the real lanes, 8 rows per channel. -/
theorem isLo8 : IsLo k0_pay3 := by
  intro c t n
  unfold k0_pay3
  constructor
  · show Scalar.cmpi .slt (iota .tc S64x8x128 32 [2] iota_S64x8x128_d2_w32 (ix3 c t (lo n))) 64#32 = 1#1
    rw [iota_single_apply]
    change Scalar.cmpi .slt (BitVec.ofNat 32 n.val) 64#32 = _
    clear c t; revert n; decide
  · show Scalar.cmpi .slt (iota .tc S64x8x128 32 [2] iota_S64x8x128_d2_w32 (ix3 c t (hi n))) 64#32 = 0#1
    rw [iota_single_apply]
    change Scalar.cmpi .slt (BitVec.ofNat 32 (n.val + 64)) 64#32 = _
    clear c t; revert n; decide

/-- The table of the times. -/
theorem times_apply (c : Fin 64) (t : Fin 8) (l : Fin 128) :
    (k0_pay4 (F := Ideal)) (ix3 c t l) = (((t.val : ℕ) : ℝ) : EReal) := by
  unfold k0_pay4
  rw [sitofp_apply, iota_single_apply]
  show (((BitVec.ofNat 32 t.val).toInt : ℝ) : EReal) = _
  rw [toInt_small (by omega), Int.cast_natCast]

/-- Two arrays of states side by side, one row per channel: the first on the first lanes. -/
theorem pair_lo (x y : FVec Ideal S64x64 .f32) (h : Shape.Concatenates [S64x64, S64x64] S64x128 1)
    (hs : S64x128.ShapeCasts S64x1x128) (c : Fin 64) (t : Fin 1) (n : Fin 64) :
    shapeCast S64x1x128 (concatenate S64x128 1 [⟨S64x64, x⟩, ⟨S64x64, y⟩] h) hs (ix3 c t (lo n)) = x (ix2 c n) := by
  rw [shapeCast_apply _ hs _ (ix2 c (lo n)) (by
    rw [Shape.rowMajor_val_two, Shape.rowMajor_val_three]
    show c.val * 128 + n.val = (c.val * 1 + t.val) * 128 + n.val
    omega)]
  exact concatenate_pair_apply_left 1 _ _ h _ rfl _ (fun b => by match b with | ⟨0, _⟩ => rfl | ⟨1, _⟩ => rfl)

/-- And the second on the last lanes. -/
theorem pair_hi (x y : FVec Ideal S64x64 .f32) (h : Shape.Concatenates [S64x64, S64x64] S64x128 1)
    (hs : S64x128.ShapeCasts S64x1x128) (c : Fin 64) (t : Fin 1) (n : Fin 64) :
    shapeCast S64x1x128 (concatenate S64x128 1 [⟨S64x64, x⟩, ⟨S64x64, y⟩] h) hs (ix3 c t (hi n)) = y (ix2 c n) := by
  rw [shapeCast_apply _ hs _ (ix2 c (hi n)) (by
    rw [Shape.rowMajor_val_two, Shape.rowMajor_val_three]
    show c.val * 128 + (n.val + 64) = (c.val * 1 + t.val) * 128 + (n.val + 64)
    omega)]
  exact concatenate_pair_apply_right 1 _ _ h _ rfl rfl _
    (fun b hb => by match b with | ⟨0, _⟩ => rfl | ⟨1, _⟩ => exact absurd rfl hb) rfl

/-- One row per channel read at each of 8 times. -/
theorem bc8 (x : FVec Ideal S64x1x128 .f32) (h : S64x1x128.Broadcasts S64x8x128) (c : Fin 64) (t : Fin 8) (l : Fin 128) :
    broadcastTo S64x8x128 x h (ix3 c t l) = x (ix3 c 0 l) :=
  broadcastTo_apply x h _ _ fun a => by match a with | ⟨0, _⟩ => rfl | ⟨1, _⟩ => rfl | ⟨2, _⟩ => rfl

/-- One number per channel read at each state. -/
theorem bc64 (x : FVec Ideal S64x1 .f32) (h : S64x1.Broadcasts S64x64) (c n : Fin 64) :
    broadcastTo S64x64 x h (ix2 c n) = x (ix2 c 0) :=
  broadcastTo_apply x h _ _ fun a => by match a with | ⟨0, _⟩ => rfl | ⟨1, _⟩ => rfl

/-- An array of states on both halves of the lanes, at each of 8 times. -/
theorem dup_apply (x : FVec Ideal S64x64 .f32) (h : Shape.Concatenates [S64x64, S64x64] S64x128 1)
    (hs : S64x128.ShapeCasts S64x1x128) (hb : S64x1x128.Broadcasts S64x8x128) (c : Fin 64) (t : Fin 8) (n : Fin 64) :
    broadcastTo S64x8x128 (shapeCast S64x1x128 (concatenate S64x128 1 [⟨S64x64, x⟩, ⟨S64x64, x⟩] h) hs) hb (ix3 c t (lo n))
        = x (ix2 c n)
      ∧ broadcastTo S64x8x128 (shapeCast S64x1x128 (concatenate S64x128 1 [⟨S64x64, x⟩, ⟨S64x64, x⟩] h) hs) hb
        (ix3 c t (hi n)) = x (ix2 c n) := by
  rw [bc8, bc8, pair_lo, pair_hi]
  exact ⟨rfl, rfl⟩

/-- The block's inputs are the real numbers `p`: channel, state. -/
structure Holds (p : Fin 64 → Fin 64 → Pole) (x0 : FVec Ideal S64x1 .f32) (x2 x3 x4 x5 : FVec Ideal S64x64 .f32) : Prop where
  ld : ∀ c n, x0 (ix2 c 0) = (((p c n).ld : ℝ) : EReal)
  lr : ∀ c n, x2 (ix2 c n) = (((p c n).lr : ℝ) : EReal)
  li : ∀ c n, x3 (ix2 c n) = (((p c n).li : ℝ) : EReal)
  cr : ∀ c n, x4 (ix2 c n) = (((p c n).cr : ℝ) : EReal)
  ci : ∀ c n, x5 (ix2 c n) = (((p c n).ci : ℝ) : EReal)

section
variable {p : Fin 64 → Fin 64 → Pole} {x0 : FVec Ideal S64x1 .f32} {x2 x3 x4 x5 : FVec Ideal S64x64 .f32}
  (hp : Holds p x0 x2 x3 x4 x5) (c n : Fin 64)
include hp

/-- The step. -/
theorem dt_apply : k0_pay5 (F := Ideal) x0 (ix2 c 0) = ((Real.exp (p c n).ld : ℝ) : EReal) := by
  unfold k0_pay5
  show Ideal.exp (shapeCast S64x1 x0 shapeCasts_S64x1_S64x1 (ix2 c 0)) = _
  rw [shapeCast_self, hp.ld c n, Ideal.exp_coe]

/-- The real part of pole times step. -/
theorem dre_apply : k0_pay6 (F := Ideal) x0 x2 (ix2 c n) = (((p c n).dre : ℝ) : EReal) := by
  unfold k0_pay6
  show (Ideal.ofBits .f32 0x00000000#32 - Ideal.exp (x2 (ix2 c n))) * broadcastTo S64x64 (k0_pay5 (F := Ideal) x0) _ (ix2 c n) = _
  rw [bc64, dt_apply hp c n, hp.lr, Ideal.exp_coe, Ideal.ofBits_zero_f32, zero_sub, ← EReal.coe_neg, ← EReal.coe_mul]
  rfl

/-- The imaginary part of pole times step. -/
theorem dim_apply : k0_pay7 (F := Ideal) x0 x3 (ix2 c n) = (((p c n).dim : ℝ) : EReal) := by
  unfold k0_pay7
  show x3 (ix2 c n) * broadcastTo S64x64 (k0_pay5 (F := Ideal) x0) _ (ix2 c n) = _
  rw [bc64, dt_apply hp c n, hp.li, ← EReal.coe_mul]
  rfl

/-- The real part of `z - 1`. -/
theorem nre_apply : k0_pay9 (F := Ideal) x0 x2 x3 (ix2 c n) = (((p c n).nre : ℝ) : EReal) := by
  unfold k0_pay9 k0_pay8
  show Ideal.exp (k0_pay6 (F := Ideal) x0 x2 (ix2 c n)) * Ideal.cos (k0_pay7 (F := Ideal) x0 x3 (ix2 c n)) - Ideal.ofBits .f32 0x3F800000#32 = _
  rw [dre_apply hp, dim_apply hp, Ideal.exp_coe, Ideal.cos_coe, Ideal.ofBits_one_f32, ← EReal.coe_mul, ← EReal.coe_one,
    ← EReal.coe_sub]
  rfl

/-- The imaginary part of `z - 1`. -/
theorem nim_apply : k0_pay10 (F := Ideal) x0 x2 x3 (ix2 c n) = (((p c n).nim : ℝ) : EReal) := by
  unfold k0_pay10 k0_pay8
  show Ideal.exp (k0_pay6 (F := Ideal) x0 x2 (ix2 c n)) * Ideal.sin (k0_pay7 (F := Ideal) x0 x3 (ix2 c n)) = _
  rw [dre_apply hp, dim_apply hp, Ideal.exp_coe, Ideal.sin_coe, ← EReal.coe_mul]
  rfl

/-- The pole's real part, the step divided out again. -/
theorem are_apply : k0_pay11 (F := Ideal) x0 x2 (ix2 c n) = ((-Real.exp (p c n).lr : ℝ) : EReal) := by
  unfold k0_pay11
  show Ideal.div (k0_pay6 (F := Ideal) x0 x2 (ix2 c n)) (broadcastTo S64x64 (k0_pay5 (F := Ideal) x0) _ (ix2 c n)) = _
  rw [bc64, dt_apply hp c n, dre_apply hp, div_real (Real.exp_pos _).ne', Pole.dre, mul_div_assoc,
    div_self (Real.exp_pos _).ne', mul_one]

/-- The inverse of the pole's squared length. -/
theorem inv_apply : k0_pay12 (F := Ideal) x0 x2 x3 (ix2 c n) = ((1 / (p c n).den : ℝ) : EReal) := by
  unfold k0_pay12
  show Ideal.div (Ideal.ofBits .f32 0x3F800000#32) (k0_pay11 (F := Ideal) x0 x2 (ix2 c n) * k0_pay11 (F := Ideal) x0 x2 (ix2 c n)
    + x3 (ix2 c n) * x3 (ix2 c n)) = _
  rw [are_apply hp, hp.li, Ideal.ofBits_one_f32, ← EReal.coe_mul, ← EReal.coe_mul, ← EReal.coe_add, ← EReal.coe_one]
  exact div_real (p c n).den_ne

/-- The real part of `(z - 1) / A`. -/
theorem qre_apply : k0_pay13 (F := Ideal) x0 x2 x3 x3 (ix2 c n)
    = ((((p c n).nre * -Real.exp (p c n).lr + (p c n).nim * (p c n).li) * (1 / (p c n).den) : ℝ) : EReal) := by
  unfold k0_pay13
  show (k0_pay9 (F := Ideal) x0 x2 x3 (ix2 c n) * k0_pay11 (F := Ideal) x0 x2 (ix2 c n) + k0_pay10 (F := Ideal) x0 x2 x3 (ix2 c n) * x3 (ix2 c n))
    * k0_pay12 (F := Ideal) x0 x2 x3 (ix2 c n) = _
  rw [nre_apply hp, are_apply hp, nim_apply hp, hp.li, inv_apply hp, ← EReal.coe_mul, ← EReal.coe_mul, ← EReal.coe_add,
    ← EReal.coe_mul]

/-- The imaginary part of `(z - 1) / A`. -/
theorem qim_apply : k0_pay14 (F := Ideal) x0 x2 x3 x3 (ix2 c n)
    = ((((p c n).nim * -Real.exp (p c n).lr - (p c n).nre * (p c n).li) * (1 / (p c n).den) : ℝ) : EReal) := by
  unfold k0_pay14
  show (k0_pay10 (F := Ideal) x0 x2 x3 (ix2 c n) * k0_pay11 (F := Ideal) x0 x2 (ix2 c n) - k0_pay9 (F := Ideal) x0 x2 x3 (ix2 c n) * x3 (ix2 c n))
    * k0_pay12 (F := Ideal) x0 x2 x3 (ix2 c n) = _
  rw [nre_apply hp, are_apply hp, nim_apply hp, hp.li, inv_apply hp, ← EReal.coe_mul, ← EReal.coe_mul, ← EReal.coe_sub,
    ← EReal.coe_mul]

/-- The real part of twice the discretised output weight. -/
theorem cdre_apply : mulf (broadcast S64x64 (Scalar.ofBits (F := Ideal) .f32 0x40000000#32))
    (subf (mulf x4 (k0_pay13 (F := Ideal) x0 x2 x3 x3)) (mulf x5 (k0_pay14 (F := Ideal) x0 x2 x3 x3))) (ix2 c n) = (((p c n).cd.re : ℝ) : EReal) := by
  show Ideal.ofBits .f32 0x40000000#32 * (x4 (ix2 c n) * k0_pay13 (F := Ideal) x0 x2 x3 x3 (ix2 c n)
    - x5 (ix2 c n) * k0_pay14 (F := Ideal) x0 x2 x3 x3 (ix2 c n)) = _
  rw [qre_apply hp, qim_apply hp, hp.cr, hp.ci, two_f32, ← EReal.coe_mul, ← EReal.coe_mul, ← EReal.coe_sub, ← EReal.coe_mul]
  congr 1
  show _ = 2 * (p c n).gre
  unfold Pole.gre
  ring

/-- The imaginary part of twice the discretised output weight. -/
theorem cdim_apply : mulf (broadcast S64x64 (Scalar.ofBits (F := Ideal) .f32 0x40000000#32))
    (addf (mulf x4 (k0_pay14 (F := Ideal) x0 x2 x3 x3)) (mulf x5 (k0_pay13 (F := Ideal) x0 x2 x3 x3))) (ix2 c n) = (((p c n).cd.im : ℝ) : EReal) := by
  show Ideal.ofBits .f32 0x40000000#32 * (x4 (ix2 c n) * k0_pay14 (F := Ideal) x0 x2 x3 x3 (ix2 c n)
    + x5 (ix2 c n) * k0_pay13 (F := Ideal) x0 x2 x3 x3 (ix2 c n)) = _
  rw [qre_apply hp, qim_apply hp, hp.cr, hp.ci, two_f32, ← EReal.coe_mul, ← EReal.coe_mul, ← EReal.coe_add, ← EReal.coe_mul]
  congr 1
  show _ = 2 * (p c n).gim
  unfold Pole.gim
  ring

variable (t : Fin 8)

/-- The moduli of the first 8 powers, on both halves. -/
theorem mod_apply : k0_pay15 (F := Ideal) (k0_pay4 (F := Ideal)) (k0_pay6 (F := Ideal) x0 x2) (ix3 c t (lo n)) = ((Real.exp (t.val * (p c n).dre) : ℝ) : EReal)
    ∧ k0_pay15 (F := Ideal) (k0_pay4 (F := Ideal)) (k0_pay6 (F := Ideal) x0 x2) (ix3 c t (hi n)) = ((Real.exp (t.val * (p c n).dre) : ℝ) : EReal) := by
  have e : ∀ l : Fin 128, k0_pay15 (F := Ideal) (k0_pay4 (F := Ideal)) (k0_pay6 (F := Ideal) x0 x2) (ix3 c t l) = Ideal.exp ((k0_pay4 (F := Ideal)) (ix3 c t l)
      * broadcastTo S64x8x128 (shapeCast S64x1x128 (concatenate S64x128 1 [⟨S64x64, k0_pay6 (F := Ideal) x0 x2⟩, ⟨S64x64, k0_pay6 (F := Ideal) x0 x2⟩]
        concatenates_S64x64_S64x64_S64x128_d1) shapeCasts_S64x128_S64x1x128) broadcasts_S64x1x128_S64x8x128 (ix3 c t l)) :=
    fun _ => rfl
  rw [e, e, (dup_apply _ _ _ _ c t n).1, (dup_apply _ _ _ _ c t n).2, times_apply, times_apply, dre_apply hp,
    ← EReal.coe_mul, Ideal.exp_coe]
  exact ⟨rfl, rfl⟩

/-- The angles of the first 8 powers, on both halves. -/
theorem ang_apply : k0_pay16 (F := Ideal) (k0_pay4 (F := Ideal)) (k0_pay7 (F := Ideal) x0 x3) (ix3 c t (lo n)) = ((t.val * (p c n).dim : ℝ) : EReal)
    ∧ k0_pay16 (F := Ideal) (k0_pay4 (F := Ideal)) (k0_pay7 (F := Ideal) x0 x3) (ix3 c t (hi n)) = ((t.val * (p c n).dim : ℝ) : EReal) := by
  have e : ∀ l : Fin 128, k0_pay16 (F := Ideal) (k0_pay4 (F := Ideal)) (k0_pay7 (F := Ideal) x0 x3) (ix3 c t l) = (k0_pay4 (F := Ideal)) (ix3 c t l)
      * broadcastTo S64x8x128 (shapeCast S64x1x128 (concatenate S64x128 1 [⟨S64x64, k0_pay7 (F := Ideal) x0 x3⟩, ⟨S64x64, k0_pay7 (F := Ideal) x0 x3⟩]
        concatenates_S64x64_S64x64_S64x128_d1) shapeCasts_S64x128_S64x1x128) broadcasts_S64x1x128_S64x8x128 (ix3 c t l) :=
    fun _ => rfl
  rw [e, e, (dup_apply _ _ _ _ c t n).1, (dup_apply _ _ _ _ c t n).2, times_apply, times_apply, dim_apply hp,
    ← EReal.coe_mul]
  exact ⟨rfl, rfl⟩

/-- Cosine on the first lanes, sine on the last. -/
theorem turn_apply : k0_pay19 (F := Ideal) k0_pay3 (k0_pay4 (F := Ideal)) (k0_pay7 (F := Ideal) x0 x3) (ix3 c t (lo n)) = ((Real.cos (t.val * (p c n).dim) : ℝ) : EReal)
    ∧ k0_pay19 (F := Ideal) k0_pay3 (k0_pay4 (F := Ideal)) (k0_pay7 (F := Ideal) x0 x3) (ix3 c t (hi n)) = ((Real.sin (t.val * (p c n).dim) : ℝ) : EReal) := by
  have e : ∀ l : Fin 128, k0_pay19 (F := Ideal) k0_pay3 (k0_pay4 (F := Ideal)) (k0_pay7 (F := Ideal) x0 x3) (ix3 c t l) = Scalar.select (k0_pay3 (ix3 c t l))
      (Ideal.cos (k0_pay16 (F := Ideal) (k0_pay4 (F := Ideal)) (k0_pay7 (F := Ideal) x0 x3) (ix3 c t l))) (Ideal.sin (k0_pay16 (F := Ideal) (k0_pay4 (F := Ideal)) (k0_pay7 (F := Ideal) x0 x3) (ix3 c t l))) :=
    fun _ => rfl
  rw [e, e, (isLo8 c t n).1, (isLo8 c t n).2, select_one, select_zero, (ang_apply hp c n t).1, (ang_apply hp c n t).2]
  exact ⟨rfl, rfl⟩

/-- Minus the sine on the first lanes, cosine on the last. -/
theorem turned_apply : select k0_pay3 (subf (broadcast S64x8x128 (Scalar.ofBits (F := Ideal) .f32 0x00000000#32))
      (k0_pay18 (F := Ideal) (k0_pay4 (F := Ideal)) (k0_pay7 (F := Ideal) x0 x3))) (k0_pay17 (F := Ideal) (k0_pay4 (F := Ideal)) (k0_pay7 (F := Ideal) x0 x3)) (ix3 c t (lo n))
        = ((-Real.sin (t.val * (p c n).dim) : ℝ) : EReal)
    ∧ select k0_pay3 (subf (broadcast S64x8x128 (Scalar.ofBits (F := Ideal) .f32 0x00000000#32))
      (k0_pay18 (F := Ideal) (k0_pay4 (F := Ideal)) (k0_pay7 (F := Ideal) x0 x3))) (k0_pay17 (F := Ideal) (k0_pay4 (F := Ideal)) (k0_pay7 (F := Ideal) x0 x3)) (ix3 c t (hi n))
        = ((Real.cos (t.val * (p c n).dim) : ℝ) : EReal) := by
  have e : ∀ l : Fin 128, select k0_pay3 (subf (broadcast S64x8x128 (Scalar.ofBits (F := Ideal) .f32 0x00000000#32))
      (k0_pay18 (F := Ideal) (k0_pay4 (F := Ideal)) (k0_pay7 (F := Ideal) x0 x3))) (k0_pay17 (F := Ideal) (k0_pay4 (F := Ideal)) (k0_pay7 (F := Ideal) x0 x3)) (ix3 c t l) = Scalar.select (k0_pay3 (ix3 c t l))
      (Ideal.ofBits .f32 0x00000000#32 - Ideal.sin (k0_pay16 (F := Ideal) (k0_pay4 (F := Ideal)) (k0_pay7 (F := Ideal) x0 x3) (ix3 c t l)))
      (Ideal.cos (k0_pay16 (F := Ideal) (k0_pay4 (F := Ideal)) (k0_pay7 (F := Ideal) x0 x3) (ix3 c t l))) :=
    fun _ => rfl
  rw [e, e, (isLo8 c t n).1, (isLo8 c t n).2, select_one, select_zero, (ang_apply hp c n t).1, (ang_apply hp c n t).2,
    Ideal.ofBits_zero_f32, zero_sub, Ideal.sin_coe, ← EReal.coe_neg]
  exact ⟨rfl, rfl⟩

omit hp in
omit c n t in
/-- The first table: `cd z ^ t` for `t < 8`. -/
theorem first_packs (hp : Holds p x0 x2 x3 x4 x5) :
    Packs (k0_pay20 (F := Ideal) k0_pay3 (k0_pay4 (F := Ideal)) (k0_pay6 (F := Ideal) x0 x2) (k0_pay7 (F := Ideal) x0 x3) (k0_pay13 (F := Ideal) x0 x2 x3 x3) (k0_pay14 (F := Ideal) x0 x2 x3 x3) x4 x5 x4 x5)
      (powers (fun c n => (p c n).cd) fun c n => (p c n).z) := by
  intro c t n
  have e : ∀ l : Fin 128, k0_pay20 (F := Ideal) k0_pay3 (k0_pay4 (F := Ideal)) (k0_pay6 (F := Ideal) x0 x2) (k0_pay7 (F := Ideal) x0 x3) (k0_pay13 (F := Ideal) x0 x2 x3 x3)
      (k0_pay14 (F := Ideal) x0 x2 x3 x3) x4 x5 x4 x5 (ix3 c t l) = k0_pay15 (F := Ideal) (k0_pay4 (F := Ideal)) (k0_pay6 (F := Ideal) x0 x2) (ix3 c t l)
      * (broadcastTo S64x8x128 (shapeCast S64x1x128 (concatenate S64x128 1
          [⟨S64x64, mulf (broadcast S64x64 (Scalar.ofBits (F := Ideal) .f32 0x40000000#32))
              (subf (mulf x4 (k0_pay13 (F := Ideal) x0 x2 x3 x3)) (mulf x5 (k0_pay14 (F := Ideal) x0 x2 x3 x3)))⟩,
            ⟨S64x64, mulf (broadcast S64x64 (Scalar.ofBits (F := Ideal) .f32 0x40000000#32))
              (subf (mulf x4 (k0_pay13 (F := Ideal) x0 x2 x3 x3)) (mulf x5 (k0_pay14 (F := Ideal) x0 x2 x3 x3)))⟩]
          concatenates_S64x64_S64x64_S64x128_d1) shapeCasts_S64x128_S64x1x128) broadcasts_S64x1x128_S64x8x128 (ix3 c t l)
          * k0_pay19 (F := Ideal) k0_pay3 (k0_pay4 (F := Ideal)) (k0_pay7 (F := Ideal) x0 x3) (ix3 c t l)
        + broadcastTo S64x8x128 (shapeCast S64x1x128 (concatenate S64x128 1
          [⟨S64x64, mulf (broadcast S64x64 (Scalar.ofBits (F := Ideal) .f32 0x40000000#32))
              (addf (mulf x4 (k0_pay14 (F := Ideal) x0 x2 x3 x3)) (mulf x5 (k0_pay13 (F := Ideal) x0 x2 x3 x3)))⟩,
            ⟨S64x64, mulf (broadcast S64x64 (Scalar.ofBits (F := Ideal) .f32 0x40000000#32))
              (addf (mulf x4 (k0_pay14 (F := Ideal) x0 x2 x3 x3)) (mulf x5 (k0_pay13 (F := Ideal) x0 x2 x3 x3)))⟩]
          concatenates_S64x64_S64x64_S64x128_d1) shapeCasts_S64x128_S64x1x128) broadcasts_S64x1x128_S64x8x128 (ix3 c t l)
          * select k0_pay3 (subf (broadcast S64x8x128 (Scalar.ofBits (F := Ideal) .f32 0x00000000#32))
              (k0_pay18 (F := Ideal) (k0_pay4 (F := Ideal)) (k0_pay7 (F := Ideal) x0 x3))) (k0_pay17 (F := Ideal) (k0_pay4 (F := Ideal)) (k0_pay7 (F := Ideal) x0 x3)) (ix3 c t l)) := fun _ => rfl
  have hz := (p c n).z_pow t.val
  constructor
  · rw [e, (dup_apply _ _ _ _ c t n).1, (dup_apply _ _ _ _ c t n).1, cdre_apply hp, cdim_apply hp, (mod_apply hp c n t).1,
      (turn_apply hp c n t).1, (turned_apply hp c n t).1, ← EReal.coe_mul, ← EReal.coe_mul, ← EReal.coe_add, ← EReal.coe_mul]
    congr 1
    show _ = ((p c n).cd * (p c n).z ^ t.val).re
    rw [hz, Complex.mul_re]
    ring
  · rw [e, (dup_apply _ _ _ _ c t n).2, (dup_apply _ _ _ _ c t n).2, cdre_apply hp, cdim_apply hp, (mod_apply hp c n t).2,
      (turn_apply hp c n t).2, (turned_apply hp c n t).2, ← EReal.coe_mul, ← EReal.coe_mul, ← EReal.coe_add, ← EReal.coe_mul]
    congr 1
    show _ = ((p c n).cd * (p c n).z ^ t.val).im
    rw [hz, Complex.mul_im]
    ring

omit hp in
omit c n t in
/-- The second table: `w ^ t` for `t < 8`. -/
theorem second_packs (hp : Holds p x0 x2 x3 x4 x5) :
    Packs (k0_pay21 (F := Ideal) k0_pay3 (k0_pay4 (F := Ideal)) (k0_pay6 (F := Ideal) x0 x2) (k0_pay7 (F := Ideal) x0 x3)) (powers (fun _ _ => 1) fun c n => (p c n).w) := by
  intro c t n
  have e : ∀ l : Fin 128, k0_pay21 (F := Ideal) k0_pay3 (k0_pay4 (F := Ideal)) (k0_pay6 (F := Ideal) x0 x2) (k0_pay7 (F := Ideal) x0 x3) (ix3 c t l)
      = Ideal.div (k0_pay19 (F := Ideal) k0_pay3 (k0_pay4 (F := Ideal)) (k0_pay7 (F := Ideal) x0 x3) (ix3 c t l)) (k0_pay15 (F := Ideal) (k0_pay4 (F := Ideal)) (k0_pay6 (F := Ideal) x0 x2) (ix3 c t l)) :=
    fun _ => rfl
  show _ = (((1 * (p c n).w ^ t.val).re : ℝ) : EReal) ∧ _ = (((1 * (p c n).w ^ t.val).im : ℝ) : EReal)
  rw [e, e, (turn_apply hp c n t).1, (turn_apply hp c n t).2, (mod_apply hp c n t).1, (mod_apply hp c n t).2, one_mul,
    Pole.w_pow]
  exact ⟨div_real (Real.exp_pos _).ne', div_real (Real.exp_pos _).ne'⟩

omit t in
/-- The modulus of the eighth power. -/
theorem mod8_apply : k0_pay22 (F := Ideal) (k0_pay6 (F := Ideal) x0 x2) (ix2 c n) = ((Real.exp (8 * (p c n).dre) : ℝ) : EReal) := by
  show Ideal.exp (Ideal.ofBits .f32 0x41000000#32 * k0_pay6 (F := Ideal) x0 x2 (ix2 c n)) = _
  rw [dre_apply hp, eight_f32, ← EReal.coe_mul, Ideal.exp_coe]

omit t in
/-- The cosine of the eighth power's angle. -/
theorem cos8_apply : k0_pay23 (F := Ideal) (k0_pay7 (F := Ideal) x0 x3) (ix2 c n) = ((Real.cos (8 * (p c n).dim) : ℝ) : EReal) := by
  show Ideal.cos (Ideal.ofBits .f32 0x41000000#32 * k0_pay7 (F := Ideal) x0 x3 (ix2 c n)) = _
  rw [dim_apply hp, eight_f32, ← EReal.coe_mul, Ideal.cos_coe]

omit t in
/-- The sine of the eighth power's angle. -/
theorem sin8_apply : k0_pay25 (F := Ideal) (k0_pay7 (F := Ideal) x0 x3) (k0_pay24 (F := Ideal)) (ix2 c n) = ((Real.sin (8 * (p c n).dim) : ℝ) : EReal) := by
  show Ideal.sin (Ideal.ofBits .f32 0x41000000#32 * k0_pay7 (F := Ideal) x0 x3 (ix2 c n)) = _
  rw [dim_apply hp, eight_f32, ← EReal.coe_mul, Ideal.sin_coe]

omit hp in
omit c n t in
/-- The first table's multiplier: `z ^ 8`. -/
theorem first_mult (hp : Holds p x0 x2 x3 x4 x5) : Packs (k0_pay26 (F := Ideal) (k0_pay7 (F := Ideal) x0 x3) (k0_pay22 (F := Ideal) (k0_pay6 (F := Ideal) x0 x2))
    (k0_pay23 (F := Ideal) (k0_pay7 (F := Ideal) x0 x3)) (k0_pay24 (F := Ideal))) fun c _ n => (p c n).z ^ 8 := by
  intro c t n
  unfold k0_pay26
  have hz := (p c n).z_pow 8
  rw [pair_lo, pair_hi, mulf_apply, mulf_apply, mod8_apply hp, cos8_apply hp, sin8_apply hp, ← EReal.coe_mul, ← EReal.coe_mul]
  show _ = (((((p c n).z ^ 8).re) : ℝ) : EReal) ∧ _ = (((((p c n).z ^ 8).im) : ℝ) : EReal)
  rw [hz, Nat.cast_ofNat]
  exact ⟨rfl, rfl⟩

omit hp in
omit c n t in
/-- The second table's multiplier: `w ^ 8`. -/
theorem second_mult (hp : Holds p x0 x2 x3 x4 x5) : Packs (k0_pay27 (F := Ideal) (k0_pay7 (F := Ideal) x0 x3) (k0_pay22 (F := Ideal) (k0_pay6 (F := Ideal) x0 x2))
    (k0_pay23 (F := Ideal) (k0_pay7 (F := Ideal) x0 x3)) (k0_pay24 (F := Ideal))) fun c _ n => (p c n).w ^ 8 := by
  intro c t n
  have hd : divf (broadcast S64x64 (Scalar.ofBits (F := Ideal) .f32 0x3F800000#32)) (k0_pay22 (F := Ideal) (k0_pay6 (F := Ideal) x0 x2)) (ix2 c n)
      = ((1 / Real.exp (8 * (p c n).dre) : ℝ) : EReal) := by
    show Ideal.div (Ideal.ofBits .f32 0x3F800000#32) (k0_pay22 (F := Ideal) (k0_pay6 (F := Ideal) x0 x2) (ix2 c n)) = _
    rw [mod8_apply hp, Ideal.ofBits_one_f32, ← EReal.coe_one, div_real (Real.exp_pos _).ne']
  unfold k0_pay27
  rw [pair_lo, pair_hi, mulf_apply, mulf_apply, hd, cos8_apply hp, sin8_apply hp, ← EReal.coe_mul, ← EReal.coe_mul, mul_one_div,
    mul_one_div]
  show _ = (((((p c n).w ^ 8).re) : ℝ) : EReal) ∧ _ = (((((p c n).w ^ 8).im) : ℝ) : EReal)
  rw [Pole.w_pow, Nat.cast_ofNat]
  exact ⟨rfl, rfl⟩

end

variable {p : Fin 64 → Fin 64 → Pole} {x0 : FVec Ideal S64x1 .f32} {x2 x3 x4 x5 : FVec Ideal S64x64 .f32}
  (x1 : FVec Ideal S64x1 .f32) (x6 : FVec Ideal S128x64x256 .f32)

/-- A load of the whole of a window's buffer reads its contents. -/
theorem ld1 (x : FVec Ideal S64x1 .f32) : View.ld (Val := Elt Ideal) (e' := .f32) x r0_0 = x :=
  View.ld_unit_zero (Val := Elt Ideal) (e := .f32) (S := S64x1) (off := ![0, 0]) (by funext a; match a with | ⟨0, _⟩ => rfl | ⟨1, _⟩ => rfl) _ x

/-- The same for an array of states. -/
theorem ld64 (x : FVec Ideal S64x64 .f32) : View.ld (Val := Elt Ideal) (e' := .f32) x r0_1 = x :=
  View.ld_unit_zero (Val := Elt Ideal) (e := .f32) (S := S64x64) (off := ![0, 0]) (by funext a; match a with | ⟨0, _⟩ => rfl | ⟨1, _⟩ => rfl) _ x

/-- A group's first table of 256 powers: `cd z ^ t`. -/
theorem pows_packs (hp : Holds p x0 x2 x3 x4 x5) (o : Fin 4) : Packs (C := 16) (T := 256) (pows x0 x1 x2 x3 x4 x5 x6 o)
    (powers (fun c n => (p (inGroup o c) n).cd) fun c n => (p (inGroup o c) n).z) := by
  have h1 : k0_pay306 (F := Ideal) x0 x1 x2 x3 x4 x5 x6 = k0_pay20 (F := Ideal) k0_pay3 (k0_pay4 (F := Ideal)) (k0_pay6 (F := Ideal) x0 x2) (k0_pay7 (F := Ideal) x0 x3) (k0_pay13 (F := Ideal) x0 x2 x3 x3)
      (k0_pay14 (F := Ideal) x0 x2 x3 x3) x4 x5 x4 x5 := by
    unfold k0_pay306 k0_pay302 k0_pay303 k0_pay304 k0_pay305
    rw [ld1, ld64, ld64, ld64, ld64]
  have h2 : k0_pay311 (F := Ideal) x0 x1 x2 x3 x4 x5 x6 = k0_pay26 (F := Ideal) (k0_pay7 (F := Ideal) x0 x3) (k0_pay22 (F := Ideal) (k0_pay6 (F := Ideal) x0 x2))
      (k0_pay23 (F := Ideal) (k0_pay7 (F := Ideal) x0 x3)) (k0_pay24 (F := Ideal)) := by
    unfold k0_pay311 k0_pay308 k0_pay309 k0_pay310 k0_pay304 k0_pay305
    rw [ld1, ld64, ld64]
  unfold pows
  rw [h1, h2]
  exact groupTower_packs isLo1 (first_packs hp) (first_mult hp) o

/-- A group's second table of 256 powers: `w ^ t`. -/
theorem invs_packs (hp : Holds p x0 x2 x3 x4 x5) (o : Fin 4) : Packs (C := 16) (T := 256) (invs x0 x1 x2 x3 x4 x5 x6 o)
    (powers (fun _ _ => 1) fun c n => (p (inGroup o c) n).w) := by
  have h1 : k0_pay307 (F := Ideal) x0 x1 x2 x3 x4 x5 x6 = k0_pay21 (F := Ideal) k0_pay3 (k0_pay4 (F := Ideal)) (k0_pay6 (F := Ideal) x0 x2) (k0_pay7 (F := Ideal) x0 x3) := by
    unfold k0_pay307 k0_pay302 k0_pay303 k0_pay304 k0_pay305
    rw [ld1, ld64, ld64]
  have h2 : k0_pay312 (F := Ideal) x0 x1 x2 x3 x4 x5 x6 = k0_pay27 (F := Ideal) (k0_pay7 (F := Ideal) x0 x3) (k0_pay22 (F := Ideal) (k0_pay6 (F := Ideal) x0 x2))
      (k0_pay23 (F := Ideal) (k0_pay7 (F := Ideal) x0 x3)) (k0_pay24 (F := Ideal)) := by
    unfold k0_pay312 k0_pay308 k0_pay309 k0_pay310 k0_pay304 k0_pay305
    rw [ld1, ld64, ld64]
  unfold invs
  rw [h1, h2]
  exact groupTower_packs isLo1 (second_packs hp) (second_mult hp) o

end Cert.S4D
-- ==== Proof.Block.lean ====
/- One block of the first kernel over finite inputs: for each channel the causal convolution of its sequences by the taps
   `Re (sum over the states of cd z ^ t)`, with the skip weight times the input added, through the GELU. -/
module

public import proofs.«01_k».proof.Proof.First8
public import Idealize.ShloMosaic.Lib.Pipeline.ValueKit.Tiles

@[expose] public section

set_option maxRecDepth 16384

noncomputable section

namespace Cert.S4D

open Idealize.ShloMosaic Idealize.ShloMosaic.ValueIdx Cert.KernelIdeal Cert.KernelIdeal.Gen Cert.KernelIdeal.Facts

/-- The filter's tap at lag `t` for the states `p`. -/
def tap (p : Fin 64 → Pole) (t : Nat) : ℝ := ∑ n, ((p n).cd * (p n).z ^ t).re

/-- A sum over the lanes, both halves added up. -/
theorem sum_lanes (f : Fin 128 → ℝ) : ∑ l, f l = ∑ n, (f (lo n) + f (hi n)) := by
  rw [Finset.sum_add_distrib]
  have h := Fin.sum_univ_add (a := 64) (b := 64) f
  rw [h]
  refine congrArg₂ (· + ·) rfl (Finset.sum_congr rfl fun n _ => ?_)
  exact congrArg f (Fin.ext (Nat.add_comm _ _))

/-- One channel's table reads the group's. -/
theorem row_apply (t : FVec Ideal S16x256x128 .f32) (c : Fin 16) (i : Fin 256) (l : Fin 128) :
    row t c (ix2 i l) = t (ix3 c i l) := by
  unfold row
  rw [shapeCast_apply _ _ _ (ix3 (n0 := 1) (n1 := 256) (n2 := 128) 0 i l) (by
    rw [Shape.rowMajor_val_two, Shape.rowMajor_val_three]
    show (0 * 256 + i.val) * 128 + l.val = i.val * 128 + l.val
    omega)]
  exact extractStridedSlice_apply _ _ _ _ _ fun a => by
    match a with
    | ⟨0, _⟩ => rfl
    | ⟨1, _⟩ => exact (Nat.zero_add _).symm
    | ⟨2, _⟩ => exact (Nat.zero_add _).symm

/-- A real multiple of a real number plus any number. -/
theorem mul_add_any (x k : ℝ) (d : EReal) : (x : EReal) * ((k : EReal) + d) = ((x * k : ℝ) : EReal) + (x : EReal) * d := by
  rw [EReal.coe_mul]
  induction d with
  | coe d => rw [← EReal.coe_add, ← EReal.coe_mul, ← EReal.coe_mul, ← EReal.coe_mul, ← EReal.coe_add, mul_add]
  | top =>
    rw [EReal.coe_add_top]
    rcases lt_trichotomy x 0 with h | h | h
    · rw [EReal.coe_mul_top_of_neg h, EReal.add_bot]
    · subst h; simp
    · rw [EReal.coe_mul_top_of_pos h, ← EReal.coe_mul, EReal.coe_add_top]
  | bot =>
    rw [EReal.add_bot]
    rcases lt_trichotomy x 0 with h | h | h
    · rw [EReal.coe_mul_bot_of_neg h, ← EReal.coe_mul, EReal.coe_add_top]
    · subst h; simp
    · rw [EReal.coe_mul_bot_of_pos h, EReal.add_bot]

section
variable {G P : FVec Ideal S16x256x128 .f32} {q : Fin 16 → Fin 64 → Pole}
  (hG : Packs (C := 16) (T := 256) G (powers (fun _ _ => 1) fun c n => (q c n).w))
  (hP : Packs (C := 16) (T := 256) P (powers (fun c n => (q c n).cd) fun c n => (q c n).z))
  (c : Fin 16)
include hG hP

/-- The product of the tables is the filter's tap, on and above the diagonal. -/
theorem raw_apply {i j : Fin 256} (h : i.val ≤ j.val) :
    raw G P c (ix2 i j) = ((tap (q c) (j.val - i.val) : ℝ) : EReal) := by
  have e : raw G P c (ix2 i j) = (0 : EReal) + ∑ l : Fin 128, row G c (ix2 i l) * row P c (ix2 j l) := by
    have := Ideal.matmul_transposedRhs_apply (φ₁ := .f32) (φ₂ := .f32) (M := 256) (K := 128) (N := 256) none (row G c) (row P c)
      (constant S256x256 .f32 0x00000000#32) i j
    refine Eq.trans this ?_
    congr 1
    exact Ideal.ofBits_zero_f32
  have hr : ∀ l : Fin 128, ∃ x : ℝ, row G c (ix2 i l) * row P c (ix2 j l) = ((x : ℝ) : EReal) := fun l => by
    rw [row_apply, row_apply]
    rcases lane_cases l with ⟨n, rfl⟩ | ⟨n, rfl⟩
    · rw [(hG c i n).1, (hP c j n).1]; exact ⟨_, (EReal.coe_mul _ _).symm⟩
    · rw [(hG c i n).2, (hP c j n).2]; exact ⟨_, (EReal.coe_mul _ _).symm⟩
  choose f hf using hr
  have hlo : ∀ n, f (lo n) = ((1 * (q c n).w ^ i.val).re) * ((q c n).cd * (q c n).z ^ j.val).re := fun n => by
    have := hf (lo n)
    rw [row_apply, row_apply, (hG c i n).1, (hP c j n).1, ← EReal.coe_mul] at this
    exact (EReal.coe_injective this).symm
  have hhi : ∀ n, f (hi n) = ((1 * (q c n).w ^ i.val).im) * ((q c n).cd * (q c n).z ^ j.val).im := fun n => by
    have := hf (hi n)
    rw [row_apply, row_apply, (hG c i n).2, (hP c j n).2, ← EReal.coe_mul] at this
    exact (EReal.coe_injective this).symm
  rw [e, zero_add, Finset.sum_congr rfl fun l _ => hf l, sum_real, sum_lanes]
  congr 1
  unfold tap
  refine Finset.sum_congr rfl fun n _ => ?_
  rw [hlo, hhi, one_mul]
  exact (q c n).parts_mul _ h

/-- The matrix the sequences are multiplied by. -/
theorem tri_apply (d : FVec Ideal S1x1 .f32) (i j : Fin 256) : tri G P c d (ix2 i j)
    = if i.val ≤ j.val then ((tap (q c) (j.val - i.val) : ℝ) : EReal) + (if i = j then d (ix2 0 0) else 0) else 0 := by
  have e : tri G P c d (ix2 i j) = Scalar.select (Scalar.cmpi .sge (cols (ix2 i j)) (rows (ix2 i j)))
      (Scalar.select (Scalar.cmpi .eq (cols (ix2 i j)) (rows (ix2 i j)))
        (raw G P c (ix2 i j) + d (ix2 0 0)) (raw G P c (ix2 i j))) (Ideal.ofBits .f32 0x00000000#32) := by
    unfold tri
    have : extractAt ![0, 0] d inpos_S1x1_p0_0 = d (ix2 0 0) := by
      unfold extractAt
      congr 1
      funext a
      match a with | ⟨0, _⟩ => rfl | ⟨1, _⟩ => rfl
    rw [← this]
    rfl
  have hc : cols (ix2 i j) = BitVec.ofNat 32 j.val := by unfold cols; rw [iota_single_apply]
  have hr : rows (ix2 i j) = BitVec.ofNat 32 i.val := by unfold rows; rw [iota_single_apply]
  rw [e, hc, hr, Ideal.ofBits_zero_f32]
  have hge : Scalar.cmpi .sge (BitVec.ofNat 32 j.val) (BitVec.ofNat 32 i.val) = BitVec.ofBool (decide (i.val ≤ j.val)) := by
    show BitVec.ofBool ((BitVec.ofNat 32 i.val).sle (BitVec.ofNat 32 j.val)) = _
    rw [BitVec.sle_eq_decide, toInt_small (by omega), toInt_small (by omega)]
    simp
  have heq : Scalar.cmpi .eq (BitVec.ofNat 32 j.val) (BitVec.ofNat 32 i.val) = BitVec.ofBool (decide (i = j)) := by
    show BitVec.ofBool (BitVec.ofNat 32 j.val == BitVec.ofNat 32 i.val) = _
    congr 1
    rw [Bool.eq_iff_iff, beq_iff_eq, decide_eq_true_iff]
    constructor
    · intro h
      have := congrArg BitVec.toInt h
      rw [toInt_small (by omega), toInt_small (by omega)] at this
      exact Fin.ext (by omega)
    · rintro rfl; rfl
  rw [hge, heq]
  by_cases h : i.val ≤ j.val
  · rw [if_pos h, decide_eq_true h, raw_apply hG hP c h]
    by_cases h' : i = j
    · rw [if_pos h', decide_eq_true h']; rfl
    · rw [if_neg h', decide_eq_false h', add_zero]; rfl
  · rw [if_neg h, decide_eq_false h]; rfl

/-- The convolution with its skip term. -/
theorem conv_apply (d : FVec Ideal S1x1 .f32) (x : FVec Ideal S128x1x256 .f32) (X : Fin 128 → Fin 256 → ℝ)
    (hx : ∀ b i, x (ix3 b 0 i) = ((X b i : ℝ) : EReal)) (b : Fin 128) (j : Fin 256) :
    conv G P c d x (ix2 b j)
      = ((∑ i : Fin 256, X b i * (if i.val ≤ j.val then tap (q c) (j.val - i.val) else 0) : ℝ) : EReal)
        + d (ix2 0 0) * ((X b j : ℝ) : EReal) := by
  have e : conv G P c d x (ix2 b j) = (0 : EReal) + ∑ i : Fin 256,
      shapeCast S128x256 x shapeCasts_S128x1x256_S128x256 (ix2 b i) * tri G P c d (ix2 i j) := by
    have := Ideal.matmul_plain_apply (φ₁ := .f32) (φ₂ := .f32) (M := 128) (K := 256) (N := 256) none
      (shapeCast S128x256 x shapeCasts_S128x1x256_S128x256) (tri G P c d) (constant S128x256 .f32 0x00000000#32) b j
    refine Eq.trans this ?_
    congr 1
    exact Ideal.ofBits_zero_f32
  have hs : ∀ i : Fin 256, shapeCast S128x256 x shapeCasts_S128x1x256_S128x256 (ix2 b i) = ((X b i : ℝ) : EReal) := fun i => by
    rw [shapeCast_apply _ _ _ (ix3 (n0 := 128) (n1 := 1) (n2 := 256) b 0 i) (by
      rw [Shape.rowMajor_val_two, Shape.rowMajor_val_three]
      show (b.val * 1 + 0) * 256 + i.val = b.val * 256 + i.val
      omega), hx]
  rw [e, zero_add, Finset.sum_congr rfl (g := fun i : Fin 256 =>
    ((X b i * (if i.val ≤ j.val then tap (q c) (j.val - i.val) else 0) : ℝ) : EReal)
      + (if i = j then d (ix2 0 0) * ((X b j : ℝ) : EReal) else 0)) fun i _ => ?_,
    Finset.sum_add_distrib, sum_real, Finset.sum_ite_eq' Finset.univ j, if_pos (Finset.mem_univ _)]
  rw [hs, tri_apply hG hP]
  by_cases h : i.val ≤ j.val
  · rw [if_pos h, if_pos h]
    by_cases h' : i = j
    · subst h'
      rw [if_pos rfl, if_pos rfl, mul_add_any, mul_comm (d _)]
    · rw [if_neg h', if_neg h', add_zero, add_zero, EReal.coe_mul]
  · have h' : i ≠ j := fun e => h (by rw [e])
    rw [if_neg h, if_neg h, if_neg h', mul_zero, mul_zero, add_zero, EReal.coe_zero]

end

/-- The GELU of one number. -/
def geluOf (y : EReal) : EReal := y * (Ideal.ofBits .f32 0x3F000000#32 * (Ideal.ofBits .f32 0x3F800000#32
  + Ideal.tanh (Ideal.ofBits .f32 0x3F4C422A#32 * (y + Ideal.ofBits .f32 0x3D372713#32 * (y * (y * y))))))

/-- What the kernel stores for a channel. -/
theorem chan_apply (G P : FVec Ideal S16x256x128 .f32) (c : Fin 16) (d : FVec Ideal S1x1 .f32)
    (x : FVec Ideal S128x1x256 .f32) (b : Fin 128) (j : Fin 256) :
    chan G P c d x (ix3 0 b j) = geluOf (conv G P c d x (ix2 b j)) := by
  unfold chan
  rw [shapeCast_apply _ _ _ (ix2 b j) (by
    rw [Shape.rowMajor_val_two, Shape.rowMajor_val_three]
    show b.val * 256 + j.val = (0 * 128 + b.val) * 256 + j.val
    omega)]
  rfl

/-- The convolution with its skip term, through the GELU: channel states `p`, skip weight `d`, sequence `X`. -/
def layerAt (p : Fin 64 → Pole) (d : EReal) (X : Fin 256 → ℝ) (j : Fin 256) : EReal :=
  geluOf (((∑ i : Fin 256, X i * (if i.val ≤ j.val then tap p (j.val - i.val) else 0) : ℝ) : EReal)
    + d * ((X j : ℝ) : EReal))

/-- Every channel of the block is one of the stores. -/
theorem mem_order (h : Fin 64) : ∃ q ∈ order, num q.1 q.2 = h := by
  revert h; decide +kernel

/-- Where a channel's store lies in the block. -/
theorem store_emb (h : Fin 64) (y : S1x128x256.Idx) :
    (Rect.unit (s := S64x128x256) ![h.val, 0, 0] S1x128x256.size (inb_o h)).emb y
      = ix3 (n0 := 64) (n1 := 128) (n2 := 256) h (y 1) (y 2) := by
  funext a
  refine Fin.ext ?_
  have h0 : (y 0).val < 1 := (y 0).isLt
  match a with
  | ⟨0, _⟩ => exact (show h.val + 1 * (y 0).val = h.val by omega)
  | ⟨1, _⟩ => exact (show 0 + 1 * (y 1).val = (y 1).val by omega)
  | ⟨2, _⟩ => exact (show 0 + 1 * (y 2).val = (y 2).val by omega)

section
variable {p : Fin 64 → Fin 64 → Pole} {x0 : FVec Ideal S64x1 .f32} {x2 x3 x4 x5 : FVec Ideal S64x64 .f32}
  (hp : Holds p x0 x2 x3 x4 x5) (x1 : FVec Ideal S64x1 .f32) (x6 : FVec Ideal S128x64x256 .f32)
  (X : Fin 128 → Fin 64 → Fin 256 → ℝ) (hx : ∀ b h i, x6 (ix3 b h i) = ((X b h i : ℝ) : EReal))
include hp hx

/-- One store: the channel's layer. -/
theorem store_apply (o : Fin 4) (c : Fin 16) (y : S1x128x256.Idx) :
    chan (invs x0 x1 x2 x3 x4 x5 x6 o) (pows x0 x1 x2 x3 x4 x5 x6 o) c
      (View.ld (Val := Elt Ideal) (e' := .f32) x1 (Rect.unit (s := S64x1) ![(num o c).val, 0] S1x1.size (inb_d (num o c))))
      (View.ld (Val := Elt Ideal) (e' := .f32) x6
        (Rect.unit (s := S128x64x256) ![0, (num o c).val, 0] S128x1x256.size (inb_x (num o c)))) y
      = layerAt (p (num o c)) (x1 (ix2 (num o c) 0)) (X (y 1) (num o c)) (y 2) := by
  have ey : y = ix3 (n0 := 1) (n1 := 128) (n2 := 256) 0 (y 1) (y 2) := by
    refine (eq_ix3 y).trans ?_
    have e0 : y 0 = (0 : Fin 1) := Subsingleton.elim (α := Fin 1) _ _
    rw [e0]
    rfl
  have hd : View.ld (Val := Elt Ideal) (e' := .f32) x1 (Rect.unit (s := S64x1) ![(num o c).val, 0] S1x1.size
      (inb_d (num o c))) (ix2 (n0 := 1) (n1 := 1) 0 0) = x1 (ix2 (num o c) 0) := by
    refine View.ld_unit_apply_of _ _ _ _ _ _ fun a => ?_
    match a with | ⟨0, _⟩ => rfl | ⟨1, _⟩ => rfl
  refine (congrArg _ ey).trans ((chan_apply _ _ _ _ _ _ _).trans (congrArg geluOf ?_))
  refine (conv_apply (q := fun c n => p (inGroup o c) n) (invs_packs x1 x6 hp o) (pows_packs x1 x6 hp o) c _ _
    (fun b i => X b (num o c) i) (fun b i => ?_) _ _).trans ?_
  · rw [← hx]
    refine View.ld_unit_apply_of _ _ _ _ _ _ fun a => ?_
    match a with
    | ⟨0, _⟩ => exact (Nat.zero_add _).symm
    | ⟨1, _⟩ => rfl
    | ⟨2, _⟩ => exact (Nat.zero_add _).symm
  · rw [hd]

/-- What the block holds after the kernel's body. -/
theorem block_apply (h : Fin 64) (b : Fin 128) (j : Fin 256) :
    out0_7 (F := Ideal) x0 x1 x2 x3 x4 x5 x6 (ix3 h b j) = layerAt (p h) (x1 (ix2 h 0)) (X b h) j := by
  rw [out_eq]
  refine (View.canon_apply_of_pieces (Val := Elt Ideal) (S := S64x128x256) (e := .bf16)
    (fun y => layerAt (p (y 0)) (x1 (ix2 (y 0) 0)) (X (y 1) (y 0)) (y 2)) _ ?_ (ix3 h b j) ?_).trans rfl
  · intro pc hpc y
    obtain ⟨q, _, rfl⟩ := List.mem_map.1 hpc
    exact (store_apply hp x1 x6 X hx q.1 q.2 y).trans
      (congrArg (fun y : S64x128x256.Idx => layerAt (p (y 0)) (x1 (ix2 (y 0) 0)) (X (y 1) (y 0)) (y 2))
        (store_emb (num q.1 q.2) y)).symm
  · obtain ⟨q, hq, hh⟩ := mem_order h
    refine ⟨_, List.mem_map.2 ⟨q, hq, rfl⟩, ?_⟩
    refine (Rect.mem_set_unit (inb := inb_o (num q.1 q.2))).2 fun a => ?_
    have hh' : (num q.1 q.2).val = h.val := congrArg Fin.val hh
    match a with
    | ⟨0, _⟩ => exact (show (num q.1 q.2).val ≤ h.val ∧ h.val < (num q.1 q.2).val + 1 by omega)
    | ⟨1, _⟩ => exact (show 0 ≤ b.val ∧ b.val < 0 + 128 by omega)
    | ⟨2, _⟩ => exact (show 0 ≤ j.val ∧ j.val < 0 + 256 by omega)

end

end Cert.S4D
-- ==== Proof.ConvArray.lean ====
/- The first kernel's result array: every channel's convolution through the GELU. -/
module

public import proofs.«01_k».proof.Proof.Block
public import proofs.«01_k».proof.Proof.Gen.KernelIdeal.Frame
public import Idealize.ShloMosaic.Lib.Pipeline.Value

@[expose] public section

set_option maxRecDepth 16384

noncomputable section

namespace Cert.S4D

open Idealize.ShloMosaic Idealize.ShloMosaic.ValueIdx Idealize.ShloMosaic.TcCoe Idealize.SL.Sem
open Cert.KernelIdeal Cert.KernelIdeal.Gen Cert.KernelIdeal.Facts
open Idealize.ShloMosaic.Pipeline (Dat)

/-- The channel in the whole array of channel `h` of block `t`. -/
abbrev inBlock (t : Fin cfg0.N) (h : Fin 64) : Fin 1024 :=
  ⟨t.val * 64 + h.val, by have : cfg0.N = 16 := N_0; omega⟩

/-- Where the blocks lie: block `t` is the `t`-th along the channels. -/
theorem index0 (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, t.val, 0] ∧ win0_7.index t = ![t.val, 0, 0] := by
  revert t; decide +kernel

variable (V : (c : Dev nD) → (b : Ref sig .tc) → Buf (Elt Ideal) ((c : Thread nD τ).loc b)) (c : Dev nD)

/-- A block of one number per channel, read in its array. -/
theorem blk0_0 (t : Fin cfg0.N) (h : Fin 64) :
    (iblk0 V c 0 t : FVec Ideal S64x1 .f32) (ix2 h 0) = (V c main_v0 : FVec Ideal S1024x1 .f32) (ix2 (inBlock t h) 0) := by
  show (V c main_v0 : FVec Ideal S1024x1 .f32) ((win0_0.rect t).emb (ix2 (n0 := 64) (n1 := 1) h 0)) = _
  refine congrArg (V c main_v0 : FVec Ideal S1024x1 .f32) (funext fun a => Fin.ext ?_)
  refine (Pipeline.Window.rect_emb_val win0_0 t _ a rfl).trans ?_
  rw [(index0 t).1]
  match a with | ⟨0, _⟩ => rfl | ⟨1, _⟩ => rfl

/-- The skip weights of a block. -/
theorem blk0_1 (t : Fin cfg0.N) (h : Fin 64) :
    (iblk0 V c 1 t : FVec Ideal S64x1 .f32) (ix2 h 0) = (V c main_v1 : FVec Ideal S1024x1 .f32) (ix2 (inBlock t h) 0) := by
  show (V c main_v1 : FVec Ideal S1024x1 .f32) ((win0_1.rect t).emb (ix2 (n0 := 64) (n1 := 1) h 0)) = _
  refine congrArg (V c main_v1 : FVec Ideal S1024x1 .f32) (funext fun a => Fin.ext ?_)
  refine (Pipeline.Window.rect_emb_val win0_1 t _ a rfl).trans ?_
  rw [(index0 t).2.1]
  match a with | ⟨0, _⟩ => rfl | ⟨1, _⟩ => rfl

/-- A block of one number per channel and state, read in its array. -/
theorem blk0_2 (t : Fin cfg0.N) (h n : Fin 64) :
    (iblk0 V c 2 t : FVec Ideal S64x64 .f32) (ix2 h n) = (V c main_arg2 : FVec Ideal S1024x64 .f32) (ix2 (inBlock t h) n) := by
  show (V c main_arg2 : FVec Ideal S1024x64 .f32) ((win0_2.rect t).emb (ix2 (n0 := 64) (n1 := 64) h n)) = _
  refine congrArg (V c main_arg2 : FVec Ideal S1024x64 .f32) (funext fun a => Fin.ext ?_)
  refine (Pipeline.Window.rect_emb_val win0_2 t _ a rfl).trans ?_
  rw [(index0 t).2.2.1]
  match a with | ⟨0, _⟩ => rfl | ⟨1, _⟩ => exact (show 0 * 64 + n.val = n.val by omega)

/-- The poles' imaginary parts of a block. -/
theorem blk0_3 (t : Fin cfg0.N) (h n : Fin 64) :
    (iblk0 V c 3 t : FVec Ideal S64x64 .f32) (ix2 h n) = (V c main_arg3 : FVec Ideal S1024x64 .f32) (ix2 (inBlock t h) n) := by
  show (V c main_arg3 : FVec Ideal S1024x64 .f32) ((win0_3.rect t).emb (ix2 (n0 := 64) (n1 := 64) h n)) = _
  refine congrArg (V c main_arg3 : FVec Ideal S1024x64 .f32) (funext fun a => Fin.ext ?_)
  refine (Pipeline.Window.rect_emb_val win0_3 t _ a rfl).trans ?_
  rw [(index0 t).2.2.2.1]
  match a with | ⟨0, _⟩ => rfl | ⟨1, _⟩ => exact (show 0 * 64 + n.val = n.val by omega)

/-- The output weights' real parts of a block. -/
theorem blk0_4 (t : Fin cfg0.N) (h n : Fin 64) :
    (iblk0 V c 4 t : FVec Ideal S64x64 .f32) (ix2 h n) = (V c main_arg4 : FVec Ideal S1024x64 .f32) (ix2 (inBlock t h) n) := by
  show (V c main_arg4 : FVec Ideal S1024x64 .f32) ((win0_4.rect t).emb (ix2 (n0 := 64) (n1 := 64) h n)) = _
  refine congrArg (V c main_arg4 : FVec Ideal S1024x64 .f32) (funext fun a => Fin.ext ?_)
  refine (Pipeline.Window.rect_emb_val win0_4 t _ a rfl).trans ?_
  rw [(index0 t).2.2.2.2.1]
  match a with | ⟨0, _⟩ => rfl | ⟨1, _⟩ => exact (show 0 * 64 + n.val = n.val by omega)

/-- The output weights' imaginary parts of a block. -/
theorem blk0_5 (t : Fin cfg0.N) (h n : Fin 64) :
    (iblk0 V c 5 t : FVec Ideal S64x64 .f32) (ix2 h n) = (V c main_arg5 : FVec Ideal S1024x64 .f32) (ix2 (inBlock t h) n) := by
  show (V c main_arg5 : FVec Ideal S1024x64 .f32) ((win0_5.rect t).emb (ix2 (n0 := 64) (n1 := 64) h n)) = _
  refine congrArg (V c main_arg5 : FVec Ideal S1024x64 .f32) (funext fun a => Fin.ext ?_)
  refine (Pipeline.Window.rect_emb_val win0_5 t _ a rfl).trans ?_
  rw [(index0 t).2.2.2.2.2.1]
  match a with | ⟨0, _⟩ => rfl | ⟨1, _⟩ => exact (show 0 * 64 + n.val = n.val by omega)

/-- The sequences of a block. -/
theorem blk0_6 (t : Fin cfg0.N) (b : Fin 128) (h : Fin 64) (i : Fin 256) :
    (iblk0 V c 6 t : FVec Ideal S128x64x256 .f32) (ix3 b h i)
      = (V c main_arg0 : FVec Ideal S128x1024x256 .f32) (ix3 b (inBlock t h) i) := by
  show (V c main_arg0 : FVec Ideal S128x1024x256 .f32)
    ((win0_6.rect t).emb (ix3 (n0 := 128) (n1 := 64) (n2 := 256) b h i)) = _
  refine congrArg (V c main_arg0 : FVec Ideal S128x1024x256 .f32) (funext fun a => Fin.ext ?_)
  refine (Pipeline.Window.rect_emb_val win0_6 t _ a rfl).trans ?_
  rw [(index0 t).2.2.2.2.2.2.1]
  match a with
  | ⟨0, _⟩ => exact (show 0 * 128 + b.val = b.val by omega)
  | ⟨1, _⟩ => rfl
  | ⟨2, _⟩ => exact (show 0 * 256 + i.val = i.val by omega)

/-- What the array holds: channel, sequence, position. -/
def convOf (p : Fin 1024 → Fin 64 → Pole) (d : Fin 1024 → EReal) (X : Fin 128 → Fin 1024 → Fin 256 → ℝ) :
    FVec Ideal S1024x128x256 .bf16 := fun y => layerAt (p (y 0)) (d (y 0)) (X (y 1) (y 0)) (y 2)

/-- The array after the first kernel, over finite inputs. -/
theorem conv_array {p : Fin 1024 → Fin 64 → Pole} {X : Fin 128 → Fin 1024 → Fin 256 → ℝ}
    (hld : ∀ h n, (V c main_v0 : FVec Ideal S1024x1 .f32) (ix2 h 0) = (((p h n).ld : ℝ) : EReal))
    (hlr : ∀ h n, (V c main_arg2 : FVec Ideal S1024x64 .f32) (ix2 h n) = (((p h n).lr : ℝ) : EReal))
    (hli : ∀ h n, (V c main_arg3 : FVec Ideal S1024x64 .f32) (ix2 h n) = (((p h n).li : ℝ) : EReal))
    (hcr : ∀ h n, (V c main_arg4 : FVec Ideal S1024x64 .f32) (ix2 h n) = (((p h n).cr : ℝ) : EReal))
    (hci : ∀ h n, (V c main_arg5 : FVec Ideal S1024x64 .f32) (ix2 h n) = (((p h n).ci : ℝ) : EReal))
    (hx : ∀ b h i, (V c main_arg0 : FVec Ideal S128x1024x256 .f32) (ix3 b h i) = ((X b h i : ℝ) : EReal)) :
    (dat0 V c).arrAt 7 cfg0.N
      = convOf p (fun h => (V c main_v1 : FVec Ideal S1024x1 .f32) (ix2 h 0)) X := by
  refine (dat0 V c).arrAt_eq_of_cover 7 _ (fun t _ => ?_) fun i => ?_
  · show (cfg0.win 7).cut (grid0.coords t) ((dat0 V c).after 7 t) = _
    rw [after0_7]
    refine funext fun (y : S64x128x256.Idx) => ?_
    have hp : Holds (fun h n => p (inBlock t h) n) (iblk0 V c 0 t) (iblk0 V c 2 t) (iblk0 V c 3 t) (iblk0 V c 4 t)
        (iblk0 V c 5 t) :=
      ⟨fun h n => (blk0_0 V c t h).trans (hld _ n), fun h n => (blk0_2 V c t h n).trans (hlr _ n),
        fun h n => (blk0_3 V c t h n).trans (hli _ n), fun h n => (blk0_4 V c t h n).trans (hcr _ n),
        fun h n => (blk0_5 V c t h n).trans (hci _ n)⟩
    have hb := block_apply hp (iblk0 V c 1 t) (iblk0 V c 6 t) (fun b h i => X b (inBlock t h) i)
      (fun b h i => (blk0_6 V c t b h i).trans (hx _ _ _)) (y 0) (y 1) (y 2)
    refine (congrArg (out0_7 (F := Ideal) (iblk0 V c 0 t) (iblk0 V c 1 t) (iblk0 V c 2 t) (iblk0 V c 3 t) (iblk0 V c 4 t)
      (iblk0 V c 5 t) (iblk0 V c 6 t)) (eq_ix3 y)).trans (hb.trans ?_)
    refine (congrArg (fun d => layerAt (p (inBlock t (y 0))) d (X (y 1) (inBlock t (y 0))) (y 2))
      (blk0_1 V c t (y 0))).trans ?_
    show convOf p (fun h => (V c main_v1 : FVec Ideal S1024x1 .f32) (ix2 h 0)) X (ix3 (inBlock t (y 0)) (y 1) (y 2))
      = convOf p (fun h => (V c main_v1 : FVec Ideal S1024x1 .f32) (ix2 h 0)) X ((win0_7.rect t).emb y)
    refine congrArg (convOf p (fun h => (V c main_v1 : FVec Ideal S1024x1 .f32) (ix2 h 0)) X) (funext fun a => Fin.ext ?_)
    refine Eq.trans ?_ (Pipeline.Window.rect_emb_val win0_7 t y a rfl).symm
    rw [(index0 t).2.2.2.2.2.2.2]
    match a with
    | ⟨0, _⟩ => rfl
    | ⟨1, _⟩ => exact (show (y 1).val = 0 * 128 + (y 1).val by omega)
    | ⟨2, _⟩ => exact (show (y 2).val = 0 * 256 + (y 2).val by omega)
  · have h0 : (i 0 : Nat) < 1024 := (i 0).isLt
    have h1 : (i 1 : Nat) < 128 := (i 1).isLt
    have h2 : (i 2 : Nat) < 256 := (i 2).isLt
    have hN : cfg0.N = 16 := N_0
    refine ⟨⟨(i 0 : Nat) / 64, by omega⟩, flush0_7 _, ?_⟩
    generalize ht : (⟨(i 0 : Nat) / 64, _⟩ : Fin cfg0.N) = t
    have ht' : t.val = (i 0 : Nat) / 64 := by rw [← ht]
    show i ∈ ((View.whole main_v2).slice (win0_7.rect t)).set
    rw [View.set_slice_whole, Rect.mem_set_unit]
    intro a
    show win0_7.index t a * win0_7.size a ≤ (i a : Nat) ∧ (i a : Nat) < win0_7.index t a * win0_7.size a + win0_7.size a
    rw [(index0 t).2.2.2.2.2.2.2]
    match a with
    | ⟨0, _⟩ => exact (show t.val * 64 ≤ (i 0 : Nat) ∧ (i 0 : Nat) < t.val * 64 + 64 by omega)
    | ⟨1, _⟩ => exact (show 0 * 128 ≤ (i 1 : Nat) ∧ (i 1 : Nat) < 0 * 128 + 128 by omega)
    | ⟨2, _⟩ => exact (show 0 * 256 ≤ (i 2 : Nat) ∧ (i 2 : Nat) < 0 * 256 + 256 by omega)

end Cert.S4D
-- ==== Proof.Glu.lean ====
/- The second kernel: the output layer of the channels, gated. Its block holds four sequences, each a store of its own. -/
module

public import proofs.«01_k».proof.Proof.Gen.KernelIdeal.Frame
public import Idealize.ShloMosaic.Lib.Pipeline.Value
public import Idealize.ShloMosaic.Lib.Pipeline.ValueKit.Tiles
public import Idealize.ShloMosaic.Lib.ValueIdx
public import Idealize.ShloMosaic.Lib.MatmulPlain
public import Idealize.ShloMosaic.Lib.IdealHost

@[expose] public section

set_option maxRecDepth 16384

noncomputable section

namespace Cert.S4D

open Idealize.ShloMosaic Idealize.ShloMosaic.ValueIdx Idealize.ShloMosaic.TcCoe Idealize.SL.Sem
open Cert.KernelIdeal Cert.KernelIdeal.Gen Cert.KernelIdeal.Facts
open Idealize.ShloMosaic.Pipeline (Dat)

/-- A number gated by another. -/
def glu (a b : EReal) : EReal := a * Ideal.logistic b

/-- One output row over the channels `y`, with its bias. -/
def lin (W : Fin 1024 → EReal) (y : Fin 1024 → EReal) (b : EReal) : EReal := ∑ k, W k * y k + b

/-- The columns of one sequence are a slice of the four. -/
theorem seq_slices (j : Fin 4) : S2048x1024.Slices ![0, 256 * j.val] S2048x256 := by
  revert j; decide

/-- The store of sequence `j` lies in the block. -/
theorem inb_s (j : Fin 4) : ∀ a, (![j.val, 0, 0] : Fin 3 → Nat) a + S1x1024x256.size a ≤ S4x1024x256.size a := by
  revert j; decide

section
variable {F : FTy → Type} [FloatOps F]

/-- The gated rows of sequence `j`. -/
def seq (j : Fin 4) (z : FVec F S2048x1024 .f32) : FVec F S1x1024x256 .f32 :=
  shapeCast S1x1024x256
    (mulf (extractStridedSlice S1024x256 ![0, 0] (extractStridedSlice S2048x256 ![0, 256 * j.val] z (seq_slices j))
        slices_S2048x256_o0_0_S1024x256)
      (logistic (extractStridedSlice S1024x256 ![1024, 0]
        (extractStridedSlice S2048x256 ![0, 256 * j.val] z (seq_slices j)) slices_S2048x256_o1024_0_S1024x256)))
    shapeCasts_S1024x256_S1x1024x256

/-- The output layer of the block's columns. -/
def layer (x0 : Vec F S2048x1024 .bf16) (x1 : Vec F S2048x1024 .f32) (x2 : Vec F S1024x1024 .bf16) :
    FVec F S2048x1024 .f32 :=
  k1_pay2 (View.ld x0 r1_0) (View.ld x2 r1_1) (View.ld x1 r1_0)

/-- The store of sequence `j`. -/
def seqPiece (j : Fin 4) (z : FVec F S2048x1024 .f32) : View.Piece (Elt F) S4x1024x256 .f32 :=
  ⟨Rect.unit (s := S4x1024x256) ![j.val, 0, 0] S1x1024x256.size (inb_s j), seq j z⟩

/-- The block after the kernel's body is its four stores. -/
theorem glu_eq (x0 : Vec F S2048x1024 .bf16) (x1 : Vec F S2048x1024 .f32) (x2 : Vec F S1024x1024 .bf16) :
    out1_3 x0 x1 x2
      = View.canon (([3, 2, 1, 0] : List (Fin 4)).map fun j => seqPiece j (layer x0 x1 x2)) := rfl

end

variable (x0 : FVec Ideal S2048x1024 .bf16) (x1 : FVec Ideal S2048x1024 .f32) (x2 : FVec Ideal S1024x1024 .bf16)

/-- The output layer at a row and a column. -/
theorem layer_apply (r : Fin 2048) (q : Fin 1024) : layer (F := Ideal) x0 x1 x2 (ix2 r q)
    = lin (fun k => x0 (ix2 r k)) (fun k => x2 (ix2 k q)) (x1 (ix2 r q)) := by
  have h0 : View.ld (Val := Elt Ideal) (e' := .bf16) x0 r1_0 = x0 :=
    View.ld_unit_zero (Val := Elt Ideal) (e := .bf16) (S := S2048x1024) (off := ![0, 0])
      (by funext a; match a with | ⟨0, _⟩ => rfl | ⟨1, _⟩ => rfl) _ x0
  have h1 : View.ld (Val := Elt Ideal) (e' := .f32) x1 r1_0 = x1 :=
    View.ld_unit_zero (Val := Elt Ideal) (e := .f32) (S := S2048x1024) (off := ![0, 0])
      (by funext a; match a with | ⟨0, _⟩ => rfl | ⟨1, _⟩ => rfl) _ x1
  have h2 : View.ld (Val := Elt Ideal) (e' := .bf16) x2 r1_1 = x2 :=
    View.ld_unit_zero (Val := Elt Ideal) (e := .bf16) (S := S1024x1024) (off := ![0, 0])
      (by funext a; match a with | ⟨0, _⟩ => rfl | ⟨1, _⟩ => rfl) _ x2
  unfold layer k1_pay2
  rw [h0, h1, h2]
  rw [shapeCast_self, shapeCast_self, shapeCast_self, addf_apply]
  unfold lin
  refine congrArg (fun s : EReal => s + x1 (ix2 r q)) ?_
  refine (Ideal.matmul_plain_apply (φ₁ := .bf16) (φ₂ := .bf16) (M := 2048) (K := 1024) (N := 1024) none x0 x2
    (constant S2048x1024 .f32 0x00000000#32) r q).trans ?_
  refine Eq.trans ?_ (zero_add _)
  refine congrArg₂ (· + ·) ?_ rfl
  exact Ideal.ofBits_zero_f32

/-- The gated rows at a row and a position. -/
theorem seq_apply (j : Fin 4) (z : FVec Ideal S2048x1024 .f32) (o : Fin 1024) (l : Fin 256) :
    seq (F := Ideal) j z (ix3 0 o l) = glu (z (ix2 ⟨o.val, by omega⟩ ⟨256 * j.val + l.val, by omega⟩))
      (z (ix2 ⟨o.val + 1024, by omega⟩ ⟨256 * j.val + l.val, by omega⟩)) := by
  unfold seq
  rw [shapeCast_apply _ _ _ (ix2 (n0 := 1024) (n1 := 256) o l) (by
    rw [Shape.rowMajor_val_two, Shape.rowMajor_val_three]
    show o.val * 256 + l.val = (0 * 1024 + o.val) * 256 + l.val
    omega), mulf_apply]
  refine congrArg₂ glu ?_ ?_
  · rw [extractStridedSlice_apply _ _ _ _ (ix2 (n0 := 2048) (n1 := 256) ⟨o.val, by omega⟩ l) (fun a => by
      match a with | ⟨0, _⟩ => exact (Nat.zero_add _).symm | ⟨1, _⟩ => exact (Nat.zero_add _).symm)]
    exact extractStridedSlice_apply _ _ _ _ _ fun a => by
      match a with | ⟨0, _⟩ => exact (Nat.zero_add _).symm | ⟨1, _⟩ => rfl
  · rw [extractStridedSlice_apply _ _ _ _ (ix2 (n0 := 2048) (n1 := 256) ⟨o.val + 1024, by omega⟩ l) (fun a => by
      match a with | ⟨0, _⟩ => exact Nat.add_comm _ _ | ⟨1, _⟩ => exact (Nat.zero_add _).symm)]
    exact extractStridedSlice_apply _ _ _ _ _ fun a => by
      match a with | ⟨0, _⟩ => exact (Nat.zero_add _).symm | ⟨1, _⟩ => rfl

/-- Where a store lies in the block. -/
theorem seq_emb (j : Fin 4) (y : S1x1024x256.Idx) :
    (Rect.unit (s := S4x1024x256) ![j.val, 0, 0] S1x1024x256.size (inb_s j)).emb y
      = ix3 (n0 := 4) (n1 := 1024) (n2 := 256) j (y 1) (y 2) := by
  funext a
  refine Fin.ext ?_
  have h0 : (y 0).val < 1 := (y 0).isLt
  match a with
  | ⟨0, _⟩ => exact (show j.val + 1 * (y 0).val = j.val by omega)
  | ⟨1, _⟩ => exact (show 0 + 1 * (y 1).val = (y 1).val by omega)
  | ⟨2, _⟩ => exact (show 0 + 1 * (y 2).val = (y 2).val by omega)

/-- The block's value: sequence, output channel, position. -/
def gluAt (j : Fin 4) (o : Fin 1024) (l : Fin 256) : EReal :=
  glu (layer (F := Ideal) x0 x1 x2 (ix2 ⟨o.val, by omega⟩ ⟨256 * j.val + l.val, by omega⟩))
    (layer (F := Ideal) x0 x1 x2 (ix2 ⟨o.val + 1024, by omega⟩ ⟨256 * j.val + l.val, by omega⟩))

/-- What the block holds after the kernel's body. -/
theorem glu_apply (j : Fin 4) (o : Fin 1024) (l : Fin 256) :
    out1_3 (F := Ideal) x0 x1 x2 (ix3 j o l) = gluAt x0 x1 x2 j o l := by
  rw [glu_eq]
  refine (View.canon_apply_of_pieces (Val := Elt Ideal) (S := S4x1024x256) (e := .f32)
    (fun y => gluAt x0 x1 x2 (y 0) (y 1) (y 2)) _ ?_ (ix3 j o l) ?_).trans rfl
  · intro pc hpc y
    obtain ⟨q, _, rfl⟩ := List.mem_map.1 hpc
    have ey : y = ix3 (n0 := 1) (n1 := 1024) (n2 := 256) 0 (y 1) (y 2) := by
      refine (eq_ix3 y).trans ?_
      have e0 : y 0 = (0 : Fin 1) := Subsingleton.elim (α := Fin 1) _ _
      rw [e0]
      rfl
    exact ((congrArg (seq (F := Ideal) q (layer (F := Ideal) x0 x1 x2)) ey).trans (seq_apply q _ _ _)).trans
      (congrArg (fun y : S4x1024x256.Idx => gluAt x0 x1 x2 (y 0) (y 1) (y 2)) (seq_emb q y)).symm
  · have hj : j ∈ ([3, 2, 1, 0] : List (Fin 4)) := by revert j; decide
    refine ⟨_, List.mem_map.2 ⟨j, hj, rfl⟩, ?_⟩
    refine (Rect.mem_set_unit (inb := inb_s j)).2 fun a => ?_
    match a with
    | ⟨0, _⟩ => exact (show j.val ≤ j.val ∧ j.val < j.val + 1 by omega)
    | ⟨1, _⟩ => exact (show 0 ≤ o.val ∧ o.val < 0 + 1024 by omega)
    | ⟨2, _⟩ => exact (show 0 ≤ l.val ∧ l.val < 0 + 256 by omega)

/-- Where the blocks lie. -/
theorem index1 (t : Fin cfg1.N) : win1_0.index t = ![0, 0] ∧ win1_1.index t = ![0, 0] ∧ win1_2.index t = ![0, t.val]
    ∧ win1_3.index t = ![t.val, 0, 0] := by
  revert t; decide +kernel

variable (V : (c : Dev nD) → (b : Ref sig .tc) → Buf (Elt Ideal) ((c : Thread nD τ).loc b)) (c : Dev nD)

/-- The weights' window is the whole array. -/
theorem blk1_0 (t : Fin cfg1.N) (r : Fin 2048) (k : Fin 1024) :
    (iblk1 V c 0 t : FVec Ideal S2048x1024 .bf16) (ix2 r k) = (V c main_v4 : FVec Ideal S2048x1024 .bf16) (ix2 r k) := by
  show (V c main_v4 : FVec Ideal S2048x1024 .bf16) ((win1_0.rect t).emb (ix2 (n0 := 2048) (n1 := 1024) r k)) = _
  refine congrArg (V c main_v4 : FVec Ideal S2048x1024 .bf16) (funext fun a => Fin.ext ?_)
  refine (Pipeline.Window.rect_emb_val win1_0 t _ a rfl).trans ?_
  rw [(index1 t).1]
  match a with
  | ⟨0, _⟩ => exact (show 0 * 2048 + r.val = r.val by omega)
  | ⟨1, _⟩ => exact (show 0 * 1024 + k.val = k.val by omega)

/-- The bias's window is the whole array. -/
theorem blk1_1 (t : Fin cfg1.N) (r : Fin 2048) (q : Fin 1024) :
    (iblk1 V c 1 t : FVec Ideal S2048x1024 .f32) (ix2 r q) = (V c main_v7 : FVec Ideal S2048x1024 .f32) (ix2 r q) := by
  show (V c main_v7 : FVec Ideal S2048x1024 .f32) ((win1_1.rect t).emb (ix2 (n0 := 2048) (n1 := 1024) r q)) = _
  refine congrArg (V c main_v7 : FVec Ideal S2048x1024 .f32) (funext fun a => Fin.ext ?_)
  refine (Pipeline.Window.rect_emb_val win1_1 t _ a rfl).trans ?_
  rw [(index1 t).2.1]
  match a with
  | ⟨0, _⟩ => exact (show 0 * 2048 + r.val = r.val by omega)
  | ⟨1, _⟩ => exact (show 0 * 1024 + q.val = q.val by omega)

/-- The columns of block `t`: four sequences. -/
theorem blk1_2 (t : Fin cfg1.N) (k q : Fin 1024) : (iblk1 V c 2 t : FVec Ideal S1024x1024 .bf16) (ix2 k q)
    = (V c main_v3 : FVec Ideal S1024x32768 .bf16)
      (ix2 k ⟨t.val * 1024 + q.val, by have : cfg1.N = 32 := N_1; omega⟩) := by
  show (V c main_v3 : FVec Ideal S1024x32768 .bf16) ((win1_2.rect t).emb (ix2 (n0 := 1024) (n1 := 1024) k q)) = _
  refine congrArg (V c main_v3 : FVec Ideal S1024x32768 .bf16) (funext fun a => Fin.ext ?_)
  refine (Pipeline.Window.rect_emb_val win1_2 t _ a rfl).trans ?_
  rw [(index1 t).2.2.1]
  match a with
  | ⟨0, _⟩ => exact (show 0 * 1024 + k.val = k.val by omega)
  | ⟨1, _⟩ => rfl

/-- The result, of the layer's input `Y` (channel, sequence, position), the weights `W` and the bias `b`: sequence, output
    channel, position. -/
def gluOf (Y : Fin 1024 → Fin 128 → Fin 256 → EReal) (W : Fin 2048 → Fin 1024 → EReal) (b : Fin 2048 → EReal) :
    FVec Ideal S128x1024x256 .f32 := fun y =>
  glu (lin (W ⟨(y 1).val, by have : (y 1).val < 1024 := (y 1).isLt; omega⟩) (fun k => Y k (y 0) (y 2))
      (b ⟨(y 1).val, by have : (y 1).val < 1024 := (y 1).isLt; omega⟩))
    (lin (W ⟨(y 1).val + 1024, by have : (y 1).val < 1024 := (y 1).isLt; omega⟩) (fun k => Y k (y 0) (y 2))
      (b ⟨(y 1).val + 1024, by have : (y 1).val < 1024 := (y 1).isLt; omega⟩))

/-- The array after the second kernel. -/
theorem glu_array {Y : Fin 1024 → Fin 128 → Fin 256 → EReal} {W : Fin 2048 → Fin 1024 → EReal} {b : Fin 2048 → EReal}
    (hW : ∀ r k, (V c main_v4 : FVec Ideal S2048x1024 .bf16) (ix2 r k) = W r k)
    (hb : ∀ r q, (V c main_v7 : FVec Ideal S2048x1024 .f32) (ix2 r q) = b r)
    (hY : ∀ k (s : Fin 128) (l : Fin 256), (V c main_v3 : FVec Ideal S1024x32768 .bf16)
      (ix2 k ⟨s.val * 256 + l.val, by omega⟩) = Y k s l) :
    (dat1 V c).arrAt 3 cfg1.N = gluOf Y W b := by
  refine (dat1 V c).arrAt_eq_of_cover 3 _ (fun t _ => ?_) fun i => ?_
  · show (cfg1.win 3).cut (grid1.coords t) ((dat1 V c).after 3 t) = _
    rw [after1_3]
    refine funext fun (y : S4x1024x256.Idx) => ?_
    have hN : cfg1.N = 32 := N_1
    have h0 : (y 0).val < 4 := (y 0).isLt
    have h1 : (y 1).val < 1024 := (y 1).isLt
    have h2 : (y 2).val < 256 := (y 2).isLt
    have ht : t.val < 32 := hN ▸ t.isLt
    have hlay : ∀ r : Fin 2048, layer (F := Ideal) (iblk1 V c 0 t) (iblk1 V c 1 t) (iblk1 V c 2 t)
        (ix2 r ⟨256 * (y 0).val + (y 2).val, by omega⟩)
        = lin (W r) (fun k => Y k ⟨t.val * 4 + (y 0).val, by omega⟩ ⟨(y 2).val, h2⟩) (b r) := fun r => by
      rw [layer_apply]
      refine congr (congrArg₂ lin (funext fun k => ?_) (funext fun k => ?_)) ?_
      · exact (blk1_0 V c t r k).trans (hW r k)
      · refine (blk1_2 V c t k _).trans (Eq.trans ?_ (hY k _ _))
        refine congrArg (fun q => (V c main_v3 : FVec Ideal S1024x32768 .bf16) (ix2 k q)) (Fin.ext ?_)
        show t.val * 1024 + (256 * (y 0).val + (y 2).val) = (t.val * 4 + (y 0).val) * 256 + (y 2).val
        omega
      · exact (blk1_1 V c t r _).trans (hb r _)
    have hg := glu_apply (iblk1 V c 0 t) (iblk1 V c 1 t) (iblk1 V c 2 t) (y 0) (y 1) (y 2)
    refine (congrArg (out1_3 (F := Ideal) (iblk1 V c 0 t) (iblk1 V c 1 t) (iblk1 V c 2 t)) (eq_ix3 y)).trans (hg.trans ?_)
    unfold gluAt
    refine (congrArg₂ glu (hlay ⟨(y 1).val, by omega⟩) (hlay ⟨(y 1).val + 1024, by omega⟩)).trans ?_
    show gluOf Y W b (ix3 (n0 := 128) (n1 := 1024) (n2 := 256) ⟨t.val * 4 + (y 0).val, by omega⟩ ⟨(y 1).val, h1⟩
      ⟨(y 2).val, h2⟩) = gluOf Y W b ((win1_3.rect t).emb y)
    refine congrArg (gluOf Y W b) (funext fun a => Fin.ext ?_)
    refine Eq.trans ?_ (Pipeline.Window.rect_emb_val win1_3 t y a rfl).symm
    rw [(index1 t).2.2.2]
    match a with
    | ⟨0, _⟩ => rfl
    | ⟨1, _⟩ => exact (show (y 1).val = 0 * 1024 + (y 1).val by omega)
    | ⟨2, _⟩ => exact (show (y 2).val = 0 * 256 + (y 2).val by omega)
  · have h0 : (i 0 : Nat) < 128 := (i 0).isLt
    have h1 : (i 1 : Nat) < 1024 := (i 1).isLt
    have h2 : (i 2 : Nat) < 256 := (i 2).isLt
    have hN : cfg1.N = 32 := N_1
    refine ⟨⟨(i 0 : Nat) / 4, by omega⟩, flush1_3 _, ?_⟩
    generalize ht : (⟨(i 0 : Nat) / 4, _⟩ : Fin cfg1.N) = t
    have ht' : t.val = (i 0 : Nat) / 4 := by rw [← ht]
    show i ∈ ((View.whole main_v8).slice (win1_3.rect t)).set
    rw [View.set_slice_whole, Rect.mem_set_unit]
    intro a
    show win1_3.index t a * win1_3.size a ≤ (i a : Nat) ∧ (i a : Nat) < win1_3.index t a * win1_3.size a + win1_3.size a
    rw [(index1 t).2.2.2]
    match a with
    | ⟨0, _⟩ => exact (show t.val * 4 ≤ (i 0 : Nat) ∧ (i 0 : Nat) < t.val * 4 + 4 by omega)
    | ⟨1, _⟩ => exact (show 0 * 1024 ≤ (i 1 : Nat) ∧ (i 1 : Nat) < 0 * 1024 + 1024 by omega)
    | ⟨2, _⟩ => exact (show 0 * 256 ≤ (i 2 : Nat) ∧ (i 2 : Nat) < 0 * 256 + 256 by omega)

end Cert.S4D
-- ==== Proof.Result.lean ====
/- The kernel's result as a function of the arguments: the first kernel's array, relaid by the host code, through the
   second kernel. -/
module

public import proofs.«01_k».proof.Proof.ConvArray
public import proofs.«01_k».proof.Proof.Glu

@[expose] public section

set_option maxRecDepth 16384

noncomputable section

namespace Cert.S4D

open Idealize.ShloMosaic Idealize.ShloMosaic.ValueIdx Idealize.ShloMosaic.TcCoe Idealize.SL.Sem
open Cert.KernelIdeal Cert.KernelIdeal.Gen Cert.KernelIdeal.Facts

/-- The arguments that have to be finite are the real numbers `p` and `X`. -/
structure Reals (p : Fin 1024 → Fin 64 → Pole) (X : Fin 128 → Fin 1024 → Fin 256 → ℝ)
    (a0 : FVec Ideal S128x1024x256 .f32) (a1 : FVec Ideal S1024 .f32) (a2 a3 a4 a5 : FVec Ideal S1024x64 .f32) : Prop where
  x : ∀ b h i, a0 (ix3 b h i) = ((X b h i : ℝ) : EReal)
  ld : ∀ h n, a1 (ix1 h) = (((p h n).ld : ℝ) : EReal)
  lr : ∀ h n, a2 (ix2 h n) = (((p h n).lr : ℝ) : EReal)
  li : ∀ h n, a3 (ix2 h n) = (((p h n).li : ℝ) : EReal)
  cr : ∀ h n, a4 (ix2 h n) = (((p h n).cr : ℝ) : EReal)
  ci : ∀ h n, a5 (ix2 h n) = (((p h n).ci : ℝ) : EReal)

variable (m : (ℓ : Loc nD τ sig) → Buf (Elt Ideal) ℓ) (ρ : Dev nD → PrngReg) (c : Dev nD)

/-- The step sizes as the first kernel reads them. -/
theorem v0_apply (h : Fin 1024) : (V1 m ρ c main_v0 : FVec Ideal S1024x1 .f32) (ix2 h 0)
    = (m ((c : Thread nD τ).loc main_arg1) : FVec Ideal S1024 .f32) (ix1 h) := by
  have e : (V1 m ρ c main_v0 : FVec Ideal S1024x1 .f32)
      = broadcastInDim S1024x1 ![0] bcast_S1024_S1024x1_0 (m ((c : Thread nD τ).loc main_arg1) : FVec Ideal S1024 .f32) := by
    show StableHlo.after hostOps0 (W0 m ρ c) (Proc.devRef .tc main_v0) = _
    after_results
  rw [e]
  exact broadcastInDim_apply _ _ _ _ _ fun a => by match a with | ⟨0, _⟩ => rfl

/-- The skip weights as the first kernel reads them. -/
theorem v1_apply (h : Fin 1024) : (V1 m ρ c main_v1 : FVec Ideal S1024x1 .f32) (ix2 h 0)
    = (m ((c : Thread nD τ).loc main_arg6) : FVec Ideal S1024 .f32) (ix1 h) := by
  have e : (V1 m ρ c main_v1 : FVec Ideal S1024x1 .f32)
      = broadcastInDim S1024x1 ![0] bcast_S1024_S1024x1_0 (m ((c : Thread nD τ).loc main_arg6) : FVec Ideal S1024 .f32) := by
    show StableHlo.after hostOps0 (W0 m ρ c) (Proc.devRef .tc main_v1) = _
    after_results
  rw [e]
  exact broadcastInDim_apply _ _ _ _ _ fun a => by match a with | ⟨0, _⟩ => rfl

/-- The second kernel reads the first one's array with the sequences side by side. -/
theorem v3_apply (k : Fin 1024) (s : Fin 128) (l : Fin 256) :
    (V3 m ρ c main_v3 : FVec Ideal S1024x32768 .bf16) (ix2 k ⟨s.val * 256 + l.val, by omega⟩)
      = (W2 m ρ c (Proc.devRef .tc main_v2) : FVec Ideal S1024x128x256 .bf16) (ix3 k s l) := by
  have e : (V3 m ρ c main_v3 : FVec Ideal S1024x32768 .bf16)
      = shapeCast S1024x32768 (W2 m ρ c (Proc.devRef .tc main_v2) : FVec Ideal S1024x128x256 .bf16)
        shapeCasts_S1024x128x256_S1024x32768 := by
    show StableHlo.after hostOps1 (W2 m ρ c) (Proc.devRef .tc main_v3) = _
    after_results
    rfl
  rw [e]
  generalize (W2 m ρ c (Proc.devRef .tc main_v2) : FVec Ideal S1024x128x256 .bf16) = y
  refine shapeCast_apply (s := S1024x128x256) (t := S1024x32768) y _ _ (ix3 k s l) ?_
  rw [Shape.rowMajor_val_two, Shape.rowMajor_val_three]
  show (k.val * 128 + s.val) * 256 + l.val = k.val * 32768 + (s.val * 256 + l.val)
  omega

/-- The second kernel reads the weights as they are. -/
theorem v4_apply (r : Fin 2048) (k : Fin 1024) : (V3 m ρ c main_v4 : FVec Ideal S2048x1024 .bf16) (ix2 r k)
    = (m ((c : Thread nD τ).loc main_arg7) : FVec Ideal S2048x1024 .f32) (ix2 r k) := by
  have e : (V3 m ρ c main_v4 : FVec Ideal S2048x1024 .bf16)
      = (W2 m ρ c (Proc.devRef .tc main_arg7) : FVec Ideal S2048x1024 .f32) := by
    show StableHlo.after hostOps1 (W2 m ρ c) (Proc.devRef .tc main_v4) = _
    after_results
    rfl
  rw [e]
  exact congrFun (W2_args m ρ c main_arg7 (by decide)) _

/-- The second kernel reads the bias of a row at every column. -/
theorem v7_apply (r : Fin 2048) (q : Fin 1024) : (V3 m ρ c main_v7 : FVec Ideal S2048x1024 .f32) (ix2 r q)
    = (m ((c : Thread nD τ).loc main_arg8) : FVec Ideal S2048 .f32) (ix1 r) := by
  have e : (V3 m ρ c main_v7 : FVec Ideal S2048x1024 .f32)
      = shapeCast S2048x1024 (broadcastInDim S2048x4x256 ![0, 1, 2] bcast_S2048x1x1_S2048x4x256_0_1_2
          (broadcastInDim S2048x1x1 ![0] bcast_S2048_S2048x1x1_0
            (W2 m ρ c (Proc.devRef .tc main_arg8) : FVec Ideal S2048 .f32)))
        shapeCasts_S2048x4x256_S2048x1024 := by
    show StableHlo.after hostOps1 (W2 m ρ c) (Proc.devRef .tc main_v7) = _
    after_results
    rfl
  rw [e, shapeCast_apply _ _ _ (ix3 (n0 := 2048) (n1 := 4) (n2 := 256) r ⟨q.val / 256, by omega⟩ ⟨q.val % 256, by omega⟩) (by
    rw [Shape.rowMajor_val_two, Shape.rowMajor_val_three]
    show (r.val * 4 + q.val / 256) * 256 + q.val % 256 = r.val * 1024 + q.val
    omega),
    broadcastInDim_apply _ _ _ _ (ix3 (n0 := 2048) (n1 := 1) (n2 := 1) r 0 0) (fun a => by
      match a with | ⟨0, _⟩ => rfl | ⟨1, _⟩ => rfl | ⟨2, _⟩ => rfl),
    broadcastInDim_apply _ _ _ _ (ix1 r) (fun a => by match a with | ⟨0, _⟩ => rfl)]
  exact congrFun (W2_args m ρ c main_arg8 (by decide)) _

/-- The kernel's result over finite arguments. -/
theorem kernel_value {p : Fin 1024 → Fin 64 → Pole} {X : Fin 128 → Fin 1024 → Fin 256 → ℝ}
    (hr : Reals p X (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) :
    (W4 m ρ c (Proc.devRef .tc main_v8) : FVec Ideal S128x1024x256 .f32)
      = gluOf (fun k s l => layerAt (p k) ((m ((c : Thread nD τ).loc main_arg6) : FVec Ideal S1024 .f32) (ix1 k)) (X s k) l)
        (fun r k => (m ((c : Thread nD τ).loc main_arg7) : FVec Ideal S2048x1024 .f32) (ix2 r k))
        (fun r => (m ((c : Thread nD τ).loc main_arg8) : FVec Ideal S2048 .f32) (ix1 r)) := by
  have arg : ∀ a ∈ argRefs, V1 m ρ c a = m ((c : Thread nD τ).loc a) := W1_args m ρ c
  have hc := conv_array (V1 m ρ) c (p := p) (X := X)
    (fun h n => (v0_apply m ρ c h).trans (hr.ld h n))
    (fun h n => (congrFun (arg main_arg2 (by decide)) _).trans (hr.lr h n))
    (fun h n => (congrFun (arg main_arg3 (by decide)) _).trans (hr.li h n))
    (fun h n => (congrFun (arg main_arg4 (by decide)) _).trans (hr.cr h n))
    (fun h n => (congrFun (arg main_arg5 (by decide)) _).trans (hr.ci h n))
    (fun b h i => (congrFun (arg main_arg0 (by decide)) _).trans (hr.x b h i))
  refine (W4_arr m ρ c 3).trans (glu_array (V3 m ρ) c (v4_apply m ρ c) (v7_apply m ρ c) fun k s l => ?_)
  refine (v3_apply m ρ c k s l).trans ((congrFun ((W2_arr m ρ c 7).trans hc) (ix3 k s l)).trans ?_)
  exact congrArg (fun d => layerAt (p k) d (X s k) l) (v1_apply m ρ c k)

end Cert.S4D
-- ==== Proof.RefFilter.lean ====
/- The reference's convolution filter over finite arguments: the real part of the poles' powers, weighted and summed. -/
module

public import proofs.«01_k».proof.Proof.Result
public import proofs.«01_k».proof.Proof.Gen.ReferenceIdeal.Read

@[expose] public section

noncomputable section

namespace Cert.S4D

open Idealize.ShloMosaic Idealize.ShloMosaic.ValueIdx
open Cert.ReferenceIdeal Cert.ReferenceIdeal.Read

variable {p : Fin 1024 → Fin 64 → Pole} {X : Fin 128 → Fin 1024 → Fin 256 → ℝ} {x0 : FVec Ideal S128x1024x256 .f32}
  {x1 : FVec Ideal S1024 .f32} {x2 x3 x4 x5 : FVec Ideal S1024x64 .f32} (hr : Reals p X x0 x1 x2 x3 x4 x5)

include hr

/-- The pole's real part. -/
theorem ref_are (h : Fin 1024) (n : Fin 64) : val_main_v3 (F := Ideal) x2 (ix2 h n) = ((-Real.exp (p h n).lr : ℝ) : EReal) := by
  rw [val_main_v3_apply, val_main_v2_apply]
  show -Ideal.exp (x2 (ix2 h n)) = _
  rw [hr.lr, Ideal.exp_coe, EReal.coe_neg]

/-- The step. -/
theorem ref_dt (h : Fin 1024) (n : Fin 64) : val_main_v4 (F := Ideal) x1 (ix2 h n) = ((Real.exp (p h n).ld : ℝ) : EReal) := by
  rw [val_main_v4_apply, val_main_v1_apply, val_main_v0_apply]
  have e : idx_main_v1 (idx_main_v4 (ix2 h n)) = ix1 h := funext fun a => by match a with | ⟨0, _⟩ => rfl
  rw [e]
  show Ideal.exp (x1 (ix1 h)) = _
  rw [hr.ld h n, Ideal.exp_coe]

/-- The pole's real part times the step. -/
theorem ref_dre (h : Fin 1024) (n : Fin 64) : val_main_v5 (F := Ideal) x1 x2 (ix2 h n) = (((p h n).dre : ℝ) : EReal) := by
  rw [val_main_v5_apply, ref_are hr, ref_dt hr]
  exact (EReal.coe_mul _ _).symm

/-- The pole's imaginary part times the step. -/
theorem ref_dim (h : Fin 1024) (n : Fin 64) : val_main_v7 (F := Ideal) x1 x3 (ix2 h n) = (((p h n).dim : ℝ) : EReal) := by
  have e : val_main_v6 (F := Ideal) x1 (ix2 h n) = ((Real.exp (p h n).ld : ℝ) : EReal) := ref_dt hr h n
  rw [val_main_v7_apply, e, hr.li]
  exact (EReal.coe_mul _ _).symm

/-- The real part of `z - 1`. -/
theorem ref_nre (h : Fin 1024) (n : Fin 64) : val_main_v12 (F := Ideal) x1 x2 x3 (ix2 h n) = (((p h n).nre : ℝ) : EReal) := by
  rw [val_main_v12_apply, val_main_v10_apply, val_main_v8_apply, val_main_v9_apply, val_main_v11_apply, val_main_cst_apply,
    ref_dre hr, ref_dim hr]
  show Ideal.exp (((p h n).dre : ℝ) : EReal) * Ideal.cos (((p h n).dim : ℝ) : EReal) - Ideal.ofBits .f32 0x3F800000#32 = _
  rw [Ideal.exp_coe, Ideal.cos_coe, Ideal.ofBits_one_f32, ← EReal.coe_mul]
  exact (EReal.coe_sub _ _).symm

/-- The imaginary part of `z - 1`. -/
theorem ref_nim (h : Fin 1024) (n : Fin 64) : val_main_v15 (F := Ideal) x1 x2 x3 (ix2 h n) = (((p h n).nim : ℝ) : EReal) := by
  rw [val_main_v15_apply, val_main_v13_apply, val_main_v14_apply, ref_dre hr, ref_dim hr]
  show Ideal.exp (((p h n).dre : ℝ) : EReal) * Ideal.sin (((p h n).dim : ℝ) : EReal) = _
  rw [Ideal.exp_coe, Ideal.sin_coe, ← EReal.coe_mul]
  rfl

/-- The real part of `C (z - 1)`. -/
theorem ref_mre (h : Fin 1024) (n : Fin 64) : val_main_v18 (F := Ideal) x1 x2 x3 x4 x5 (ix2 h n)
    = (((p h n).cr * (p h n).nre - (p h n).ci * (p h n).nim : ℝ) : EReal) := by
  rw [val_main_v18_apply, val_main_v16_apply, val_main_v17_apply, ref_nre hr, ref_nim hr, hr.cr, hr.ci, EReal.coe_sub,
    EReal.coe_mul, EReal.coe_mul]
  rfl

/-- The imaginary part of `C (z - 1)`. -/
theorem ref_mim (h : Fin 1024) (n : Fin 64) : val_main_v21 (F := Ideal) x1 x2 x3 x4 x5 (ix2 h n)
    = (((p h n).cr * (p h n).nim + (p h n).ci * (p h n).nre : ℝ) : EReal) := by
  rw [val_main_v21_apply, val_main_v19_apply, val_main_v20_apply, ref_nre hr, ref_nim hr, hr.cr, hr.ci, EReal.coe_add,
    EReal.coe_mul, EReal.coe_mul]
  rfl

/-- The squared length of the pole. -/
theorem ref_den (h : Fin 1024) (n : Fin 64) : val_main_v24 (F := Ideal) x2 x3 (ix2 h n) = (((p h n).den : ℝ) : EReal) := by
  rw [val_main_v24_apply, val_main_v22_apply, val_main_v23_apply, ref_are hr, hr.li]
  unfold Pole.den
  rw [EReal.coe_add, EReal.coe_mul, EReal.coe_mul]
  rfl

/-- The real part of the discretised output weight. -/
theorem ref_gre (h : Fin 1024) (n : Fin 64) : val_main_v28 (F := Ideal) x1 x2 x3 x4 x5 (ix2 h n) = (((p h n).gre : ℝ) : EReal) := by
  rw [val_main_v28_apply, val_main_v27_apply, val_main_v25_apply, val_main_v26_apply, ref_mre hr, ref_mim hr, ref_are hr,
    hr.li, ref_den hr]
  show Ideal.div (_ * _ + _ * _) _ = _
  rw [← EReal.coe_mul, ← EReal.coe_mul, ← EReal.coe_add, div_real (p h n).den_ne]
  rfl

/-- The imaginary part of the discretised output weight. -/
theorem ref_gim (h : Fin 1024) (n : Fin 64) : val_main_v32 (F := Ideal) x1 x2 x3 x4 x5 (ix2 h n) = (((p h n).gim : ℝ) : EReal) := by
  rw [val_main_v32_apply, val_main_v31_apply, val_main_v29_apply, val_main_v30_apply, ref_mre hr, ref_mim hr, ref_are hr,
    hr.li, ref_den hr]
  show Ideal.div (_ * _ - _ * _) _ = _
  rw [← EReal.coe_mul, ← EReal.coe_mul, ← EReal.coe_sub, div_real (p h n).den_ne]
  rfl

omit hr in
/-- The positions as numbers. -/
theorem ref_pos (t : Fin 256) : val_main_v33 (F := Ideal) (ix1 t) = ((t.val : ℝ) : EReal) := by
  show (((BitVec.ofNat 32 t.val).toInt : ℝ) : EReal) = _
  rw [toInt_small (by omega), Int.cast_natCast]

/-- The exponent of a power's length. -/
theorem ref_len (h : Fin 1024) (n : Fin 64) (t : Fin 256) : val_main_v38 (F := Ideal) x1 x2 (ix3 h n t)
    = (((p h n).dre * t.val : ℝ) : EReal) := by
  rw [val_main_v38_apply, val_main_v36_apply, val_main_v34_apply, val_main_v37_apply, val_main_v35_apply]
  have e1 : idx_main_v34 (idx_main_v36 (ix3 h n t)) = ix2 h n := funext fun a => by
    match a with | ⟨0, _⟩ => rfl | ⟨1, _⟩ => rfl
  have e2 : idx_main_v35 (idx_main_v37 (ix3 h n t)) = ix1 t := funext fun a => by match a with | ⟨0, _⟩ => rfl
  rw [e1, e2, ref_pos, ref_dre hr]
  exact (EReal.coe_mul _ _).symm

/-- The angle of a power. -/
theorem ref_ang (h : Fin 1024) (n : Fin 64) (t : Fin 256) : val_main_v44 (F := Ideal) x1 x3 (ix3 h n t)
    = (((p h n).dim * t.val : ℝ) : EReal) := by
  rw [val_main_v44_apply, val_main_v42_apply, val_main_v40_apply, val_main_v43_apply, val_main_v41_apply]
  have e1 : idx_main_v40 (idx_main_v42 (ix3 h n t)) = ix2 h n := funext fun a => by
    match a with | ⟨0, _⟩ => rfl | ⟨1, _⟩ => rfl
  have e2 : idx_main_v41 (idx_main_v43 (ix3 h n t)) = ix1 t := funext fun a => by match a with | ⟨0, _⟩ => rfl
  rw [e1, e2, ref_pos, ref_dim hr]
  exact (EReal.coe_mul _ _).symm

/-- The real part of a power. -/
theorem ref_pre (h : Fin 1024) (n : Fin 64) (t : Fin 256) : val_main_v46 (F := Ideal) x1 x2 x3 (ix3 h n t)
    = ((Real.exp ((p h n).dre * t.val) * Real.cos ((p h n).dim * t.val) : ℝ) : EReal) := by
  rw [val_main_v46_apply, val_main_v39_apply, val_main_v45_apply, ref_len hr, ref_ang hr]
  show Ideal.exp (((p h n).dre * t.val : ℝ) : EReal) * Ideal.cos (((p h n).dim * t.val : ℝ) : EReal) = _
  rw [Ideal.exp_coe, Ideal.cos_coe, EReal.coe_mul]

/-- The imaginary part of a power. -/
theorem ref_pim (h : Fin 1024) (n : Fin 64) (t : Fin 256) : val_main_v49 (F := Ideal) x1 x2 x3 (ix3 h n t)
    = ((Real.exp ((p h n).dre * t.val) * Real.sin ((p h n).dim * t.val) : ℝ) : EReal) := by
  rw [val_main_v49_apply, val_main_v39_apply, val_main_v48_apply, ref_len hr, ref_ang hr]
  show Ideal.exp (((p h n).dre * t.val : ℝ) : EReal) * Ideal.sin (((p h n).dim * t.val : ℝ) : EReal) = _
  rw [Ideal.exp_coe, Ideal.sin_coe, EReal.coe_mul]

/-- The filter: twice the real part of the weighted powers' sum. -/
theorem ref_filter (h : Fin 1024) (t : Fin 256) : val_main_v53 (F := Ideal) x1 x2 x3 x4 x5 (ix2 h t)
    = ((tap (p h) t.val : ℝ) : EReal) := by
  rw [val_main_v53_apply, val_main_v52_apply, val_main_cst_0_apply, val_main_v51_apply, val_main_v47_apply, val_main_v50_apply]
  have l1 : ∀ n, lidx_main_v47 (ix2 h t) n = ix2 h n := fun n => funext fun a => by
    match a with | ⟨0, _⟩ => rfl | ⟨1, _⟩ => rfl
  have r1 : ∀ n, ridx_main_v47 (ix2 h t) n = ix3 h n t := fun n => funext fun a => by
    match a with | ⟨0, _⟩ => rfl | ⟨1, _⟩ => rfl | ⟨2, _⟩ => rfl
  have l2 : ∀ n, lidx_main_v50 (ix2 h t) n = ix2 h n := fun n => funext fun a => by
    match a with | ⟨0, _⟩ => rfl | ⟨1, _⟩ => rfl
  have r2 : ∀ n, ridx_main_v50 (ix2 h t) n = ix3 h n t := fun n => funext fun a => by
    match a with | ⟨0, _⟩ => rfl | ⟨1, _⟩ => rfl | ⟨2, _⟩ => rfl
  simp only [l1, r1, l2, r2, ref_gre hr, ref_gim hr, ref_pre hr, ref_pim hr, ← EReal.coe_mul, sum_real]
  show Ideal.ofBits .f32 0x40000000#32 * (_ - _) = _
  rw [two_f32, ← EReal.coe_sub, ← EReal.coe_mul, ← Finset.sum_sub_distrib, Finset.mul_sum]
  exact congrArg _ (Finset.sum_congr rfl fun n _ => ((p h n).tap_eq t.val).symm)

end Cert.S4D
-- ==== Proof.RefLag.lean ====
/- The reference's matrix of lags: where it is not negative, what it gathers, and the causal matrix it makes of the filter. -/
module

public import proofs.«01_k».proof.Proof.RefFilter

@[expose] public section

noncomputable section

namespace Cert.S4D

open Idealize.ShloMosaic Idealize.ShloMosaic.ValueIdx
open Cert.ReferenceIdeal Cert.ReferenceIdeal.Read

/-- Two positions in order: their difference as a word. -/
theorem sub_of_le {j l : Nat} (h : j ≤ l) (hl : l < 256) : BitVec.ofNat 32 l - BitVec.ofNat 32 j = BitVec.ofNat 32 (l - j) := by
  apply BitVec.eq_of_toNat_eq
  simp only [BitVec.toNat_sub, BitVec.toNat_ofNat]
  omega

/-- Two positions out of order: their difference as a signed word. -/
theorem sub_of_lt {j l : Nat} (h : l < j) (hj : j < 256) :
    (BitVec.ofNat 32 l - BitVec.ofNat 32 j).toInt = (l : Int) - j := by
  rw [BitVec.toInt_sub, toInt_small (by omega), toInt_small (by omega)]
  rw [Int.bmod_eq_of_le (by omega) (by omega)]

/-- A small word against zero. -/
theorem small_nonneg {t : Nat} (h : t < 256) : (0#32).sle (BitVec.ofNat 32 t) = true ∧ (BitVec.ofNat 32 t).slt 0#32 = false := by
  rw [BitVec.sle, BitVec.slt, toInt_small (t := t) (by omega), BitVec.toInt_zero]
  exact ⟨decide_eq_true (by omega), decide_eq_false (by omega)⟩

/-- The lag of a row and a column. -/
theorem ref_lag (j l : Fin 256) : val_main_v60 (F := Ideal) (ix2 j l) = BitVec.ofNat 32 l.val - BitVec.ofNat 32 j.val := by
  rw [val_main_v60_apply, val_main_v58_apply, val_main_v55_apply, val_main_v54_apply, val_main_v59_apply, val_main_v57_apply,
    val_main_v56_apply]
  rfl

/-- The lag is not negative where the row is not after the column. -/
theorem ref_causal (j l : Fin 256) : val_main_v62 (F := Ideal) (ix2 j l) = if j.val ≤ l.val then 1#1 else 0#1 := by
  rw [val_main_v62_apply, ref_lag, val_main_v61_apply, val_main_c_apply]
  show BitVec.ofBool ((0#32).sle (BitVec.ofNat 32 l.val - BitVec.ofNat 32 j.val)) = _
  by_cases h : j.val ≤ l.val
  · rw [if_pos h, sub_of_le h l.isLt, (small_nonneg (by omega)).1]
    rfl
  · rw [if_neg h, BitVec.sle, sub_of_lt (by omega) j.isLt]
    have : decide ((0#32).toInt ≤ (l.val : Int) - j.val) = false := by
      rw [decide_eq_false_iff_not]
      show ¬ ((0 : Int) ≤ _)
      omega
    rw [this]
    rfl

/-- The gathered position where the row is not after the column. -/
theorem ref_place (j l : Fin 256) (h : j.val ≤ l.val) :
    val_main_v69 (F := Ideal) (ix2 j l) = BitVec.ofNat 32 (l.val - j.val) := by
  have hm : val_main_v64 (F := Ideal) (ix2 j l) = BitVec.ofNat 32 (l.val - j.val) := by
    rw [val_main_v64_apply, ref_lag, val_main_v63_apply, val_main_c_1_apply, sub_of_le h l.isLt]
    unfold IntOp.maxsi
    split
    · rfl
    · rename_i hn
      rw [BitVec.slt, toInt_small (t := l.val - j.val) (by omega), BitVec.toInt_zero] at hn
      have : l.val - j.val = 0 := by
        by_contra h0
        exact hn (decide_eq_true (by omega))
      rw [this]
  have hc : val_main_v66 (F := Ideal) (ix2 j l) = 0#1 := by
    rw [val_main_v66_apply, hm, val_main_v65_apply, val_main_c_2_apply]
    show BitVec.ofBool ((BitVec.ofNat 32 (l.val - j.val)).slt 0#32) = _
    rw [(small_nonneg (by omega)).2]
    rfl
  rw [val_main_v69_apply, hc, hm]
  rfl

/-- How the reference gathers: along the columns, every row whole. -/
abbrev gat := gather_S1024x256_S256x256x1_S1024x256x256_0_1_n_n_1_2_10241

/-- The row read is the result's. -/
theorem gat_row (idx : IVec S256x256x1 32) (h : Fin 1024) (j l : Fin 256) :
    gat.start (ix3 h j l) idx 0 + gat.batchCoord (ix3 h j l) 0 + gat.offCoord (ix3 h j l) 0 = h.val := by
  rw [GatherDims.batchCoord_eq_zero _ _ _ List.not_mem_nil]
  unfold GatherDims.start GatherDims.offCoord
  rw [dif_neg (show (0 : Fin S1024x256.rank) ∉ gat.startIndexMap by decide),
    dif_pos (show (0 : Fin S1024x256.rank) ∈ gat.sKept by decide)]
  exact Nat.zero_add _

/-- The column read is the place named, read signed and clamped. -/
theorem gat_col (idx : IVec S256x256x1 32) (h : Fin 1024) (j l : Fin 256) :
    gat.start (ix3 h j l) idx 1 + gat.batchCoord (ix3 h j l) 1 + gat.offCoord (ix3 h j l) 1
      = min (idx (ix3 j l 0)).toInt.toNat 255 := by
  rw [GatherDims.batchCoord_eq_zero _ _ _ List.not_mem_nil,
    GatherDims.offCoord_eq_zero _ _ _ (show (1 : Fin S1024x256.rank) ∉ gat.sKept by decide)]
  unfold GatherDims.start
  rw [dif_pos (show (1 : Fin S1024x256.rank) ∈ gat.startIndexMap by decide)]
  refine congrArg (fun q => min (idx q).toInt.toNat 255) (funext fun b => Fin.ext ?_)
  match b with | ⟨0, _⟩ => rfl | ⟨1, _⟩ => rfl | ⟨2, _⟩ => rfl

/-- The reference's gather along the columns: the operand at the place read signed and clamped. -/
theorem gather_apply (x : FVec Ideal S1024x256 .f32) (idx : IVec S256x256x1 32) (h : Fin 1024) (j l : Fin 256) :
    Host.gather gat x idx (ix3 h j l) = x (ix2 h ⟨min (idx (ix3 j l 0)).toInt.toNat 255, by omega⟩) := by
  unfold Host.gather
  refine congrArg x (funext fun a => Fin.ext ?_)
  match a with
  | ⟨0, _⟩ => exact gat_row idx h j l
  | ⟨1, _⟩ => exact gat_col idx h j l

variable {p : Fin 1024 → Fin 64 → Pole} {X : Fin 128 → Fin 1024 → Fin 256 → ℝ} {x0 : FVec Ideal S128x1024x256 .f32}
  {x1 : FVec Ideal S1024 .f32} {x2 x3 x4 x5 : FVec Ideal S1024x64 .f32}

/-- The causal matrix of a channel. -/
theorem ref_toep (hr : Reals p X x0 x1 x2 x3 x4 x5) (h : Fin 1024) (j l : Fin 256) :
    val_main_v72 (F := Ideal) x1 x2 x3 x4 x5 (ix3 h j l)
      = (((if j.val ≤ l.val then tap (p h) (l.val - j.val) else 0 : ℝ)) : EReal) := by
  rw [val_main_v72_apply, val_main_call0_v1_apply]
  have e : idx_main_call0_v1 (ix3 h j l) = ix2 j l := funext fun a => by match a with | ⟨0, _⟩ => rfl | ⟨1, _⟩ => rfl
  rw [e, ref_causal]
  by_cases hl : j.val ≤ l.val
  · rw [if_pos hl, if_pos hl, select_one]
    unfold val_main_v71
    refine (gather_apply _ _ h j l).trans (Eq.trans ?_ (ref_filter hr h ⟨l.val - j.val, by omega⟩))
    refine congrArg (fun q => val_main_v53 (F := Ideal) x1 x2 x3 x4 x5 (ix2 h q)) (Fin.ext ?_)
    have e2 : idx_main_v70 (ix3 j l 0) = ix2 j l := funext fun a => by match a with | ⟨0, _⟩ => rfl | ⟨1, _⟩ => rfl
    show min (val_main_v70 (F := Ideal) (ix3 j l 0)).toInt.toNat 255 = l.val - j.val
    rw [val_main_v70_apply, e2, ref_place j l hl, toInt_small (by omega)]
    omega
  · rw [if_neg hl, if_neg hl, select_zero, val_main_call0_v2_apply, val_main_call0_v0_apply, val_main_cst_4_apply]
    exact Ideal.ofBits_zero_f32

end Cert.S4D
-- ==== Proof.RefValue.lean ====
/- The reference's result over finite arguments: the convolved sequences through the GELU, the output layer, the gate. -/
module

public import proofs.«01_k».proof.Proof.RefLag

@[expose] public section

noncomputable section

namespace Cert.S4D

open Idealize.ShloMosaic Idealize.ShloMosaic.ValueIdx
open Cert.ReferenceIdeal Cert.ReferenceIdeal.Read

variable {p : Fin 1024 → Fin 64 → Pole} {X : Fin 128 → Fin 1024 → Fin 256 → ℝ} {x0 : FVec Ideal S128x1024x256 .f32}
  {x1 : FVec Ideal S1024 .f32} {x2 x3 x4 x5 : FVec Ideal S1024x64 .f32} (hr : Reals p X x0 x1 x2 x3 x4 x5)
  (x6 : FVec Ideal S1024 .f32) (x7 : FVec Ideal S2048x1024 .f32) (x8 : FVec Ideal S2048 .f32)

include hr

/-- The convolution of a sequence of a channel. -/
theorem ref_conv (b : Fin 128) (h : Fin 1024) (l : Fin 256) : val_main_v74 (F := Ideal) x0 x1 x2 x3 x4 x5 (ix3 b h l)
    = ((∑ i : Fin 256, X b h i * (if i.val ≤ l.val then tap (p h) (l.val - i.val) else 0) : ℝ) : EReal) := by
  rw [val_main_v74_apply, val_main_v73_apply]
  have el : ∀ k, lidx_main_v73 (idx_main_v74 (ix3 b h l)) k = ix3 h k l := fun k => funext fun a => by
    match a with | ⟨0, _⟩ => rfl | ⟨1, _⟩ => rfl | ⟨2, _⟩ => rfl
  have er : ∀ k, ridx_main_v73 (idx_main_v74 (ix3 b h l)) k = ix3 b h k := fun k => funext fun a => by
    match a with | ⟨0, _⟩ => rfl | ⟨1, _⟩ => rfl | ⟨2, _⟩ => rfl
  simp only [el, er, ref_toep hr, hr.x, ← EReal.coe_mul, sum_real]
  exact congrArg _ (Finset.sum_congr rfl fun k _ => mul_comm _ _)

/-- The convolution with the skip connection added. -/
theorem ref_skip (b : Fin 128) (h : Fin 1024) (l : Fin 256) : val_main_v78 (F := Ideal) x0 x1 x2 x3 x4 x5 x6 (ix3 b h l)
    = ((∑ i : Fin 256, X b h i * (if i.val ≤ l.val then tap (p h) (l.val - i.val) else 0) : ℝ) : EReal)
      + x6 (ix1 h) * ((X b h l : ℝ) : EReal) := by
  rw [val_main_v78_apply, ref_conv hr, val_main_v77_apply, val_main_v76_apply, val_main_v75_apply, hr.x]
  have e : idx_main_v75 (idx_main_v76 (ix3 b h l)) = ix1 h := funext fun a => by match a with | ⟨0, _⟩ => rfl
  rw [e]
  rfl

/-- The layer's activation. -/
theorem ref_act (b : Fin 128) (h : Fin 1024) (l : Fin 256) : val_main_v91 (F := Ideal) x0 x1 x2 x3 x4 x5 x6 (ix3 b h l)
    = layerAt (p h) (x6 (ix1 h)) (X b h) l := by
  rw [val_main_v91_apply, val_main_v90_apply, val_main_v89_apply, val_main_cst_8_apply, val_main_v88_apply, val_main_v87_apply,
    val_main_cst_7_apply, val_main_v86_apply, val_main_v85_apply, val_main_v84_apply, val_main_cst_6_apply, val_main_v83_apply,
    val_main_v82_apply, val_main_v81_apply, val_main_cst_5_apply, val_main_v80_apply, val_main_v79_apply, ref_skip hr]
  unfold layerAt
  generalize (((∑ i : Fin 256, X b h i * (if i.val ≤ l.val then tap (p h) (l.val - i.val) else 0) : ℝ) : EReal)
      + x6 (ix1 h) * ((X b h l : ℝ) : EReal)) = y
  unfold geluOf
  rw [← mul_assoc y y y]
  rfl

/-- The output layer at a row. -/
theorem ref_lin (b : Fin 128) (r : Fin 2048) (l : Fin 256) :
    val_main_v96 (F := Ideal) x0 x1 x2 x3 x4 x5 x6 x7 x8 (ix3 b r l)
      = lin (fun k => x7 (ix2 r k)) (fun k => layerAt (p k) (x6 (ix1 k)) (X b k) l) (x8 (ix1 r)) := by
  rw [val_main_v96_apply, val_main_v93_apply, val_main_v92_apply, val_main_v95_apply, val_main_v94_apply]
  have el : ∀ k, lidx_main_v92 (idx_main_v93 (ix3 b r l)) k = ix2 r k := fun k => funext fun a => by
    match a with | ⟨0, _⟩ => rfl | ⟨1, _⟩ => rfl
  have er : ∀ k, ridx_main_v92 (idx_main_v93 (ix3 b r l)) k = ix3 b k l := fun k => funext fun a => by
    match a with | ⟨0, _⟩ => rfl | ⟨1, _⟩ => rfl | ⟨2, _⟩ => rfl
  have eb : idx_main_v94 (idx_main_v95 (ix3 b r l)) = ix1 r := funext fun a => by match a with | ⟨0, _⟩ => rfl
  simp only [el, er, eb, ref_act hr]
  rfl

/-- The reference's result. -/
theorem reference_value : val_main_v105 (F := Ideal) x0 x1 x2 x3 x4 x5 x6 x7 x8
    = gluOf (fun k s l => layerAt (p k) (x6 (ix1 k)) (X s k) l) (fun r k => x7 (ix2 r k)) (fun r => x8 (ix1 r)) := by
  refine funext fun (y : S128x1024x256.Idx) => ?_
  obtain ⟨b, o, l, rfl⟩ : ∃ (b : Fin 128) (o : Fin 1024) (l : Fin 256), y = ix3 b o l := ⟨y 0, y 1, y 2, eq_ix3 y⟩
  rw [val_main_v105_apply, val_main_v104_apply, val_main_v103_apply, val_main_cst_10_apply, val_main_v102_apply,
    val_main_v101_apply, val_main_cst_9_apply, val_main_v100_apply, val_main_v99_apply, val_main_v98_apply, val_main_v97_apply]
  have e1 : idx_main_v97 (ix3 b o l) = ix3 b (⟨o.val, by omega⟩ : Fin 2048) l := funext fun a => by
    match a with | ⟨0, _⟩ => rfl | ⟨1, _⟩ => rfl | ⟨2, _⟩ => rfl
  have e2 : idx_main_v98 (ix3 b o l) = ix3 b (⟨o.val + 1024, by omega⟩ : Fin 2048) l := funext fun a => by
    match a with | ⟨0, _⟩ => rfl | ⟨1, _⟩ => exact Fin.ext (Nat.add_comm _ _) | ⟨2, _⟩ => rfl
  rw [e1, e2, ref_lin hr, ref_lin hr]
  show lin (fun k => x7 (ix2 ⟨o.val, _⟩ k)) (fun k => layerAt (p k) (x6 (ix1 k)) (X b k) l) (x8 (ix1 ⟨o.val, _⟩))
    * Ideal.div (Ideal.ofBits .f32 0x3F800000#32) (Ideal.ofBits .f32 0x3F800000#32
      + Ideal.exp (-lin (fun k => x7 (ix2 ⟨o.val + 1024, _⟩ k)) (fun k => layerAt (p k) (x6 (ix1 k)) (X b k) l)
        (x8 (ix1 ⟨o.val + 1024, _⟩)))) = _
  rw [Ideal.ofBits_one_f32]
  rfl

end Cert.S4D
-- ==== Proof.Finite.lean ====
/- The precondition, decoded: its six arguments are arrays of real numbers. -/
module

public import proofs.«01_k».proof.Proof.Result
public import proofs.«01_k».proof.Proof.Gen.Pre_finite

@[expose] public section

noncomputable section

namespace Cert.S4D

open Idealize.ShloMosaic Idealize.ShloMosaic.ValueIdx
open Cert.Pre_finite

/-- The f32 pattern of negative infinity. -/
theorem neg_inf_f32 : Ideal.ofBits .f32 0xFF800000#32 = ⊥ := by simp [Ideal.ofBits, Ideal.ieee]

/-- The f32 pattern of infinity. -/
theorem inf_f32 : Ideal.ofBits .f32 0x7F800000#32 = ⊤ := by simp [Ideal.ofBits, Ideal.ieee]

/-- A number strictly between the infinities is real. -/
theorem real_of_cmp {x : EReal} (h : IntOp.andi (Ideal.cmp .ogt x (Ideal.ofBits .f32 0xFF800000#32))
    (Ideal.cmp .olt x (Ideal.ofBits .f32 0x7F800000#32)) = 1#1) : x = ((x.toReal : ℝ) : EReal) := by
  rw [neg_inf_f32, inf_f32] at h
  have hb : x ≠ ⊥ := by rintro rfl; revert h; simp [Ideal.cmp, IntOp.andi]
  have ht : x ≠ ⊤ := by rintro rfl; revert h; simp [Ideal.cmp, IntOp.andi]
  exact (EReal.coe_toReal ht hb).symm

/-- An array whose two comparisons with the infinities hold everywhere is real everywhere. -/
theorem real_of_pre {s : Shape} (hb : S_.BroadcastsInDim s (![] : Fin 0 → Fin s.rank)) (x : FVec Ideal s .f32)
    (h : andi (cmpf .ogt x (broadcastInDim s ![] hb (constant S_ .f32 0xFF800000#32)))
      (cmpf .olt x (broadcastInDim s ![] hb (constant S_ .f32 0x7F800000#32))) = fun _ => 1#1) (i : s.Idx) :
    x i = (((x i).toReal : ℝ) : EReal) := real_of_cmp (congrFun h i)

/-- Over finite arguments the real numbers are there. -/
theorem reals_of_pre (a0 : FVec Ideal S128x1024x256 .f32) (a1 : FVec Ideal S1024 .f32)
    (a2 a3 a4 a5 : FVec Ideal S1024x64 .f32) (a6 : FVec Ideal S1024 .f32) (a7 : FVec Ideal S2048x1024 .f32)
    (a8 : FVec Ideal S2048 .f32)
    (h : (fn (F := Ideal) a0 a1 a2 a3 a4 a5 a6 a7 a8).1 = (fun _ => 1#1)
      ∧ (fn (F := Ideal) a0 a1 a2 a3 a4 a5 a6 a7 a8).2.1 = (fun _ => 1#1)
      ∧ (fn (F := Ideal) a0 a1 a2 a3 a4 a5 a6 a7 a8).2.2.1 = (fun _ => 1#1)
      ∧ (fn (F := Ideal) a0 a1 a2 a3 a4 a5 a6 a7 a8).2.2.2.1 = (fun _ => 1#1)
      ∧ (fn (F := Ideal) a0 a1 a2 a3 a4 a5 a6 a7 a8).2.2.2.2.1 = (fun _ => 1#1)
      ∧ (fn (F := Ideal) a0 a1 a2 a3 a4 a5 a6 a7 a8).2.2.2.2.2 = (fun _ => 1#1)) :
    Reals (fun h n => ⟨(a1 (ix1 h)).toReal, (a2 (ix2 h n)).toReal, (a3 (ix2 h n)).toReal, (a4 (ix2 h n)).toReal,
      (a5 (ix2 h n)).toReal⟩) (fun b h i => (a0 (ix3 b h i)).toReal) a0 a1 a2 a3 a4 a5 := by
  obtain ⟨h0, h1, h2, h3, h4, h5⟩ := h
  exact ⟨fun _ _ _ => real_of_pre _ a0 h0 _, fun _ _ => real_of_pre _ a1 h1 _, fun _ _ => real_of_pre _ a2 h2 _,
    fun _ _ => real_of_pre _ a3 h3 _, fun _ _ => real_of_pre _ a4 h4 _, fun _ _ => real_of_pre _ a5 h5 _⟩

end Cert.S4D
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelRun
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- The reference ends with its arguments as launched and every counter at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8))
      ∧ r.2.sem = fun _ => 0) :=
  (θ_run _ _ _).mono (fun r h => ⟨fun c => (h c).2, sem_eq_zero_of_no_sems (by decide) r.2⟩)
    (ReferenceIdeal.Value.run (F := Ideal) m g)

/-- Equal results from equal finite arguments. -/
theorem algebraic : algebraic_KernelIdeal_ReferenceIdeal_pre_finite := by
  intro m g m' g' hpre harg
  refine ⟨fun c => KernelIdeal.Gen.W4 m g c (Proc.devRef .tc KernelIdeal.main_v8), S4D.kernel_run m g, ?_⟩
  refine (θ_run _ _ _).mono (fun r h c => ⟨(h c).1.trans ?_, (h c).2⟩) (ReferenceIdeal.Value.run (F := Ideal) m' g')
  refine (ReferenceIdeal.Read.val_main_v105_eq _).trans ?_
  obtain ⟨h0, h1, h2, h3, h4, h5, h6, h7, h8⟩ := harg c
  have hr := S4D.reals_of_pre _ _ _ _ _ _ _ _ _ (hpre c)
  refine Eq.trans ?_ (S4D.kernel_value m g c hr).symm
  refine Eq.trans ?_ (S4D.reference_value hr _ _ _)
  simp only [StableHlo.launchContents]
  exact congr (congr (congr (congr (congr (congr (congr (congrArg₂ (ReferenceIdeal.Read.val_main_v105 (F := Ideal)) h0 h1)
    h2) h3) h4) h5) h6) h7) h8

/-- The claim. -/
theorem claim : Cert.Claim := ⟨Cert.Kernel.Gen.facts, Cert.KernelIdeal.Gen.facts, Cert.ReferenceIdeal.Gen.facts,
  Cert.Pre_finite.Gen.facts, fun m g _ => Kernel.Gen.frame m g, fun m g _ => KernelIdeal.Gen.frame m g,
  fun m g _ => KernelIdeal.Gen.frame m g, fun m g _ => reference_frame m g, fun m g _ => reference_frame m g, trivial,
  algebraic⟩

end Cert.Proof
